-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_v17) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16x2048x512 : Shape := ⟨3, ![16, 2048, 512]⟩
abbrev S16x4x2048 : Shape := ⟨3, ![16, 4, 2048]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x4x2048 : S_.BroadcastsInDim S16x4x2048 (![] : Fin 0 → Fin S16x4x2048.rank)
  reducesTo_S16x4x2048_S_d0_1_2 : S16x4x2048.ReducesTo [0, 1, 2] S_

variable [Facts]

def fn {F : FTy → Type} [FloatOps F] (main_arg0 : FVec F S16x2048x512 .f32) (main_arg1 : FVec F S16x2048x512 .f32) (main_arg2 : FVec F S16x2048x512 .f32) (main_arg3 : FVec F S16x4x2048 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S16x4x2048 .f32 := Host.absf main_arg3
  let main_cst_2 : FVec F S_ .f32 := constant S_ .f32 0x7F800000#32
  let main_v10 : FVec F S16x4x2048 .f32 := broadcastInDim S16x4x2048 ![] bcast_S_S16x4x2048 main_cst_2
  let main_v11 : IVec S16x4x2048 1 := cmpf .olt main_v9 main_v10
  let main_c_3 : IVec S_ 1 := constantI S_ 1 1#1
  let main_v12 : IVec S_ 1 := (fun x v => Host.reduce IntOp.andi x v reducesTo_S16x4x2048_S_d0_1_2 h_S_) main_v11 main_c_3
  let main_v13 : IVec S_ 1 := andi main_v8 main_v12
  main_v13
-- ==== Pre_finite2.lean ====
abbrev S16x2048x1024 : Shape := ⟨3, ![16, 2048, 1024]⟩
abbrev S1024x1024 : Shape := ⟨2, ![1024, 1024]⟩
abbrev S1024 : Shape := ⟨1, ![1024]⟩
abbrev S1024x512 : Shape := ⟨2, ![1024, 512]⟩
abbrev S2x16x256x4x128 : Shape := ⟨5, ![2, 16, 256, 4, 128]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩
abbrev S1x16x256x4x128 : Shape := ⟨5, ![1, 16, 256, 4, 128]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x512 : S_.BroadcastsInDim S1024x512 (![] : Fin 0 → Fin S1024x512.rank)
  reducesTo_S1024x512_S_d0_1 : S1024x512.ReducesTo [0, 1] S_
  slices_S2x16x256x4x128_S1x16x256x4x128_1_0_0_0_0 : S2x16x256x4x128.Slices ![1, 0, 0, 0, 0] S1x16x256x4x128
  bcast_S_S1x16x256x4x128 : S_.BroadcastsInDim S1x16x256x4x128 (![] : Fin 0 → Fin S1x16x256x4x128.rank)
  reducesTo_S1x16x256x4x128_S_d0_1_2_3_4 : S1x16x256x4x128.ReducesTo [0, 1, 2, 3, 4] S_

variable [Facts]

def fn {F : FTy → Type} [FloatOps F] (main_arg0 : FVec F S16x2048x1024 .f32) (main_arg1 : FVec F S16x2048x1024 .f32) (main_arg2 : FVec F S1024x1024 .f32) (main_arg3 : FVec F S1024 .f32) (main_arg4 : FVec F S1024x512 .f32) (main_arg5 : FVec F S2x16x256x4x128 .f32) (main_arg6 : FVec F S2x16x256x4x128 .f32) (main_arg7 : FVec F S512x1024 .f32) (main_arg8 : FVec F S1024 .f32) (main_arg9 : FVec F S1024x4096 .f32) (main_arg10 : FVec F S4096x1024 .f32) (main_arg11 : FVec F S1024 .f32) : IVec S_ 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x512 .f32 := Host.absf main_arg4
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1x16x256x4x128 .f32 := (extractStridedSlice S1x16x256x4x128 ![1, 0, 0, 0, 0] · slices_S2x16x256x4x128_S1x16x256x4x128_1_0_0_0_0) main_arg5
  let main_v10 : FVec F S1x16x256x4x128 .f32 := Host.absf main_v9
  let main_cst_2 : FVec F S_ .f32 := constant S_ .f32 0x7F800000#32
  let main_v11 : FVec F S1x16x256x4x128 .f32 := broadcastInDim S1x16x256x4x128 ![] bcast_S_S1x16x256x4x128 main_cst_2
  let main_v12 : IVec S1x16x256x4x128 1 := cmpf .olt main_v10 main_v11
  let main_c_3 : IVec S_ 1 := constantI S_ 1 1#1
  let main_v13 : IVec S_ 1 := (fun x v => Host.reduce IntOp.andi x v reducesTo_S1x16x256x4x128_S_d0_1_2_3_4 h_S_) main_v12 main_c_3
  let main_v14 : IVec S_ 1 := andi main_v8 main_v13
  main_v14
-- ==== Pre_finite3.lean ====
abbrev S16x2048x1024 : Shape := ⟨3, ![16, 2048, 1024]⟩
abbrev S16x2048x512 : Shape := ⟨3, ![16, 2048, 512]⟩
abbrev S1024x1024 : Shape := ⟨2, ![1024, 1024]⟩
abbrev S1024 : Shape := ⟨1, ![1024]⟩
abbrev S1024x512 : Shape := ⟨2, ![1024, 512]⟩
abbrev S2x16x256x4x128 : Shape := ⟨5, ![2, 16, 256, 4, 128]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩
abbrev S1x16x256x4x128 : Shape := ⟨5, ![1, 16, 256, 4, 128]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x512 : S_.BroadcastsInDim S1024x512 (![] : Fin 0 → Fin S1024x512.rank)
  reducesTo_S1024x512_S_d0_1 : S1024x512.ReducesTo [0, 1] S_
  slices_S2x16x256x4x128_S1x16x256x4x128_0_0_0_0_0 : S2x16x256x4x128.Slices ![0, 0, 0, 0, 0] S1x16x256x4x128
  bcast_S_S1x16x256x4x128 : S_.BroadcastsInDim S1x16x256x4x128 (![] : Fin 0 → Fin S1x16x256x4x128.rank)
  reducesTo_S1x16x256x4x128_S_d0_1_2_3_4 : S1x16x256x4x128.ReducesTo [0, 1, 2, 3, 4] S_

variable [Facts]

def fn {F : FTy → Type} [FloatOps F] (main_arg0 : FVec F S16x2048x1024 .f32) (main_arg1 : FVec F S16x2048x512 .f32) (main_arg2 : FVec F S16x2048x512 .f32) (main_arg3 : FVec F S1024x1024 .f32) (main_arg4 : FVec F S1024 .f32) (main_arg5 : FVec F S1024x512 .f32) (main_arg6 : FVec F S2x16x256x4x128 .f32) (main_arg7 : FVec F S2x16x256x4x128 .f32) (main_arg8 : FVec F S512x1024 .f32) (main_arg9 : FVec F S1024 .f32) (main_arg10 : FVec F S1024x4096 .f32) (main_arg11 : FVec F S4096x1024 .f32) : IVec S_ 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x512 .f32 := Host.absf main_arg5
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1x16x256x4x128 .f32 := (extractStridedSlice S1x16x256x4x128 ![0, 0, 0, 0, 0] · slices_S2x16x256x4x128_S1x16x256x4x128_0_0_0_0_0) main_arg6
  let main_v10 : FVec F S1x16x256x4x128 .f32 := Host.absf main_v9
  let main_cst_2 : FVec F S_ .f32 := constant S_ .f32 0x7F800000#32
  let main_v11 : FVec F S1x16x256x4x128 .f32 := broadcastInDim S1x16x256x4x128 ![] bcast_S_S1x16x256x4x128 main_cst_2
  let main_v12 : IVec S1x16x256x4x128 1 := cmpf .olt main_v10 main_v11
  let main_c_3 : IVec S_ 1 := constantI S_ 1 1#1
  let main_v13 : IVec S_ 1 := (fun x v => Host.reduce IntOp.andi x v reducesTo_S1x16x256x4x128_S_d0_1_2_3_4 h_S_) main_v12 main_c_3
  let main_v14 : IVec S_ 1 := andi main_v8 main_v13
  main_v14
-- ==== Kernel.lean ====
abbrev S16x2048x512 : Shape := ⟨3, ![16, 2048, 512]⟩
abbrev S16x4x2048 : Shape := ⟨3, ![16, 4, 2048]⟩
abbrev S_ : Shape := ⟨0, ![]⟩
abbrev S16x4x8x256 : Shape := ⟨4, ![16, 4, 8, 256]⟩
abbrev S1x1024x128 : Shape := ⟨3, ![1, 1024, 128]⟩
abbrev S1x2048x128 : Shape := ⟨3, ![1, 2048, 128]⟩
abbrev S1x1x8x256 : Shape := ⟨4, ![1, 1, 8, 256]⟩
abbrev S1x256x128 : Shape := ⟨3, ![1, 256, 128]⟩
abbrev S256x128 : Shape := ⟨2, ![256, 128]⟩
abbrev S256x1 : Shape := ⟨2, ![256, 1]⟩
abbrev S1x512x128 : Shape := ⟨3, ![1, 512, 128]⟩
abbrev S512x128 : Shape := ⟨2, ![512, 128]⟩
abbrev S1x1x1x256 : Shape := ⟨4, ![1, 1, 1, 256]⟩
abbrev S1x256 : Shape := ⟨2, ![1, 256]⟩
abbrev S1x512 : Shape := ⟨2, ![1, 512]⟩
abbrev S256x512 : Shape := ⟨2, ![256, 512]⟩
abbrev S256 : Shape := ⟨1, ![256]⟩
abbrev S256x256 : Shape := ⟨2, ![256, 256]⟩
abbrev S1x768 : Shape := ⟨2, ![1, 768]⟩
abbrev S1x768x128 : Shape := ⟨3, ![1, 768, 128]⟩
abbrev S768x128 : Shape := ⟨2, ![768, 128]⟩
abbrev S256x768 : Shape := ⟨2, ![256, 768]⟩
abbrev S1x1024 : Shape := ⟨2, ![1, 1024]⟩
abbrev S1024x128 : Shape := ⟨2, ![1024, 128]⟩
abbrev S256x1024 : Shape := ⟨2, ![256, 1024]⟩

abbrev nBuf : Space → Nat
  | .hbm => 20
  | .vmem => 10
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x4x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x2048x512, .f32⟩
  | .hbm, ⟨12, _⟩ => ⟨S16x2048x512, .f32⟩
  | .hbm, ⟨13, _⟩ => ⟨S16x2048x512, .bf16⟩
  | .hbm, ⟨14, _⟩ => ⟨S16x2048x512, .bf16⟩
  | .hbm, ⟨15, _⟩ => ⟨S16x2048x512, .bf16⟩
  | .hbm, ⟨16, _⟩ => ⟨S16x4x2048, .f32⟩
  | .hbm, ⟨17, _⟩ => ⟨S16x4x2048, .f32⟩
  | .hbm, ⟨18, _⟩ => ⟨S16x4x8x256, .f32⟩
  | .hbm, ⟨19, _⟩ => ⟨S16x2048x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x8x256, .f32⟩
  | .local _ .vmem, ⟨7, _⟩ => ⟨S1x1x8x256, .f32⟩
  | .local _ .vmem, ⟨8, _⟩ => ⟨S1x1024x128, .bf16⟩
  | .local _ .vmem, ⟨9, _⟩ => ⟨S1x1024x128, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 2], ![false, false, false]⟩

@[reducible] def k0_t1_loop (i : grid0.Coords) : Scf.Loop 32 :=
  let c0_i32 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_10 : BitVec 32 := 1#32
  ⟨c0_i32, v16, c1_i32_10⟩
def k0_mult1 (i : grid0.Coords) (k0_t1 : Fin (k0_t1_loop i).trips) : BitVec 32 :=
  let c0_i32 : BitVec 32 := 0#32
  let c1_i32_10 : BitVec 32 := 1#32
  let arg8 : BitVec 32 := Scf.iv c0_i32 c1_i32_10 k0_t1
  let c512_i32_79 : BitVec 32 := 512#32
  let v200 : BitVec 32 := Scalar.muli arg8 c512_i32_79
  v200
def k0_off1 (i : grid0.Coords) (k0_t1 : Fin (k0_t1_loop i).trips) : Fin 3 → Nat :=
  let c0_80 : Index := 0#32
  let c0_i32 : BitVec 32 := 0#32
  let c1_i32_10 : BitVec 32 := 1#32
  let arg8 : BitVec 32 := Scf.iv c0_i32 c1_i32_10 k0_t1
  let c512_i32_79 : BitVec 32 := 512#32
  let v200 : BitVec 32 := Scalar.muli arg8 c512_i32_79
  let v201 : BitVec 32 := v200
  let v202 : Index := Scalar.indexCast v201
  let c0_81 : Index := 0#32
  ![0, v202.toNat, 0]
def k0_off2 (i : grid0.Coords) (k0_t1 : Fin (k0_t1_loop i).trips) (c0_i32_85 : BitVec 32) : Fin 4 → Nat :=
  let c0_86 : Index := 0#32
  let c0_87 : Index := 0#32
  let c0_i32 : BitVec 32 := 0#32
  let c1_i32_10 : BitVec 32 := 1#32
  let arg8 : BitVec 32 := Scf.iv c0_i32 c1_i32_10 k0_t1
  let c2_i32_84 : BitVec 32 := 2#32
  let v208 : BitVec 32 := Scalar.muli arg8 c2_i32_84
  let v209 : BitVec 32 := Scalar.addi v208 c0_i32_85
  let v210 : Index := Scalar.indexCast v209
  let c0_88 : Index := 0#32
  ![0, 0, v210.toNat, 0]
@[reducible] def k0_t2_loop (i : grid0.Coords) : Scf.Loop 32 :=
  let c0_i32 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32
  let c1_i32 : BitVec 32 := 1#32
  let v14 : BitVec 32 := Scalar.divsi v12 c1_i32
  let v15 : BitVec 32 := Scalar.muli v14 c1_i32
  let v16 : BitVec 32 := Scalar.addi c0_i32 v15
  let v13 : BitVec 32 := Scalar.addi c0_i32 v12
  let c1_i32_11 : BitVec 32 := 1#32
  ⟨v16, v13, c1_i32_11⟩
def k0_mult2 (i : grid0.Coords) (k0_t2 : Fin (k0_t2_loop i).trips) : BitVec 32 :=
  let c0_i32 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_11 : BitVec 32 := 1#32
  let arg8 : BitVec 32 := Scf.iv v16 c1_i32_11 k0_t2
  let c512_i32_79 : BitVec 32 := 512#32
  let v200 : BitVec 32 := Scalar.muli arg8 c512_i32_79
  v200
def k0_off3 (i : grid0.Coords) (k0_t2 : Fin (k0_t2_loop i).trips) : Fin 3 → Nat :=
  let c0_80 : Index := 0#32
  let c0_i32 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_11 : BitVec 32 := 1#32
  let arg8 : BitVec 32 := Scf.iv v16 c1_i32_11 k0_t2
  let c512_i32_79 : BitVec 32 := 512#32
  let v200 : BitVec 32 := Scalar.muli arg8 c512_i32_79
  let v201 : BitVec 32 := v200
  let v202 : Index := Scalar.indexCast v201
  let c0_81 : Index := 0#32
  ![0, v202.toNat, 0]
def k0_off4 (i : grid0.Coords) (k0_t2 : Fin (k0_t2_loop i).trips) (c0_i32_85 : BitVec 32) : Fin 4 → Nat :=
  let c0_86 : Index := 0#32
  let c0_87 : Index := 0#32
  let c0_i32 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_11 : BitVec 32 := 1#32
  let arg8 : BitVec 32 := Scf.iv v16 c1_i32_11 k0_t2
  let c2_i32_84 : BitVec 32 := 2#32
  let v208 : BitVec 32 := Scalar.muli arg8 c2_i32_84
  let v209 : BitVec 32 := Scalar.addi v208 c0_i32_85
  let v210 : Index := Scalar.indexCast v209
  let c0_88 : Index := 0#32
  ![0, 0, v210.toNat, 0]
def k0_mult3 (i : grid0.Coords) : BitVec 32 :=
  let arg2 : BitVec 32 := BitVec.ofNat 32 (i 2).val
  let c1024_i32 : BitVec 32 := 1024#32
  let v19 : BitVec 32 := Scalar.muli arg2 c1024_i32
  v19
def k0_off5 (i : grid0.Coords) (c0_i32_12 : BitVec 32) : Fin 4 → Nat :=
  let c0_13 : Index := 0#32
  let c0_14 : Index := 0#32
  let arg2 : BitVec 32 := BitVec.ofNat 32 (i 2).val
  let c4_i32 : BitVec 32 := 4#32
  let v21 : BitVec 32 := Scalar.muli arg2 c4_i32
  let v22 : BitVec 32 := Scalar.addi v21 c0_i32_12
  let v23 : Index := Scalar.indexCast v22
  let c0_15 : Index := 0#32
  ![0, 0, v23.toNat, 0]
def k0_off6 (i : grid0.Coords) : Fin 3 → Nat :=
  let c0_30 : Index := 0#32
  let arg2 : BitVec 32 := BitVec.ofNat 32 (i 2).val
  let c1024_i32 : BitVec 32 := 1024#32
  let v19 : BitVec 32 := Scalar.muli arg2 c1024_i32
  let v20 : BitVec 32 := v19
  let v41 : Index := Scalar.indexCast v20
  let c0_31 : Index := 0#32
  ![0, v41.toNat, 0]
def k0_off7 (i : grid0.Coords) : Fin 3 → Nat :=
  let c0_37 : Index := 0#32
  let arg2 : BitVec 32 := BitVec.ofNat 32 (i 2).val
  let c1024_i32 : BitVec 32 := 1024#32
  let v19 : BitVec 32 := Scalar.muli arg2 c1024_i32
  let v20 : BitVec 32 := v19
  let v58 : Index := Scalar.indexCast v20
  let c0_38 : Index := 0#32
  ![0, v58.toNat, 0]
def k0_off8 (i : grid0.Coords) : Fin 3 → Nat :=
  let c0_43 : Index := 0#32
  let arg2 : BitVec 32 := BitVec.ofNat 32 (i 2).val
  let c1024_i32 : BitVec 32 := 1024#32
  let v19 : BitVec 32 := Scalar.muli arg2 c1024_i32
  let v20 : BitVec 32 := v19
  let v75 : Index := Scalar.indexCast v20
  let c0_44 : Index := 0#32
  ![0, v75.toNat, 0]
def k0_off9 (i : grid0.Coords) : Fin 3 → Nat :=
  let c0_49 : Index := 0#32
  let arg2 : BitVec 32 := BitVec.ofNat 32 (i 2).val
  let c1024_i32 : BitVec 32 := 1024#32
  let v19 : BitVec 32 := Scalar.muli arg2 c1024_i32
  let v20 : BitVec 32 := v19
  let v92 : Index := Scalar.indexCast v20
  let c0_50 : Index := 0#32
  ![0, v92.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x2048x512 : Shape := ⟨3, ![16, 2048, 512]⟩
abbrev S16x4x2048 : Shape := ⟨3, ![16, 4, 2048]⟩
abbrev S16x2048x4x128 : Shape := ⟨4, ![16, 2048, 4, 128]⟩
abbrev S2048 : Shape := ⟨1, ![2048]⟩
abbrev S16x4x2048x2048 : Shape := ⟨4, ![16, 4, 2048, 2048]⟩
abbrev S_ : Shape := ⟨0, ![]⟩
abbrev S16x4x2048x1 : Shape := ⟨4, ![16, 4, 2048, 1]⟩
abbrev S16x4x1x2048 : Shape := ⟨4, ![16, 4, 1, 2048]⟩
abbrev S1x2048 : Shape := ⟨2, ![1, 2048]⟩
abbrev S2048x1 : Shape := ⟨2, ![2048, 1]⟩
abbrev S2048x2048 : Shape := ⟨2, ![2048, 2048]⟩
abbrev S16x4x128x2048 : Shape := ⟨4, ![16, 4, 128, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x4x2048, .f32⟩
  | .hbm, ⟨4, _⟩ => ⟨S16x2048x4x128, .f32⟩
  | .hbm, ⟨5, _⟩ => ⟨S16x2048x4x128, .f32⟩
  | .hbm, ⟨6, _⟩ => ⟨S16x2048x4x128, .f32⟩
  | .hbm, ⟨7, _⟩ => ⟨S2048, .i32⟩
  | .hbm, ⟨8, _⟩ => ⟨S16x4x2048x2048, .f32⟩
  | .hbm, ⟨9, _⟩ => ⟨S_, .f32⟩
  | .hbm, ⟨10, _⟩ => ⟨S_, .f32⟩
  | .hbm, ⟨11, _⟩ => ⟨S16x4x2048x2048, .f32⟩
  | .hbm, ⟨12, _⟩ => ⟨S16x4x2048x2048, .f32⟩
  | .hbm, ⟨13, _⟩ => ⟨S16x4x2048x1, .f32⟩
  | .hbm, ⟨14, _⟩ => ⟨S16x4x2048x2048, .f32⟩
  | .hbm, ⟨15, _⟩ => ⟨S16x4x2048x2048, .f32⟩
  | .hbm, ⟨16, _⟩ => ⟨S16x4x1x2048, .f32⟩
  | .hbm, ⟨17, _⟩ => ⟨S16x4x2048x2048, .f32⟩
  | .hbm, ⟨18, _⟩ => ⟨S16x4x2048x2048, .f32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S16x4x2048x2048, .i1⟩
  | .hbm, ⟨27, _⟩ => ⟨S16x4x2048x2048, .f32⟩
  | .hbm, ⟨28, _⟩ => ⟨S16x4x2048x2048, .f32⟩
  | .hbm, ⟨29, _⟩ => ⟨S_, .f32⟩
  | .hbm, ⟨30, _⟩ => ⟨S16x4x2048, .f32⟩
  | .hbm, ⟨31, _⟩ => ⟨S_, .f32⟩
  | .hbm, ⟨32, _⟩ => ⟨S16x4x2048, .f32⟩
  | .hbm, ⟨33, _⟩ => ⟨S16x4x2048, .f32⟩
  | .hbm, ⟨34, _⟩ => ⟨S16x4x2048x1, .f32⟩
  | .hbm, ⟨35, _⟩ => ⟨S16x4x2048x2048, .f32⟩
  | .hbm, ⟨36, _⟩ => ⟨S16x4x2048x2048, .f32⟩
  | .hbm, ⟨37, _⟩ => ⟨S16x4x2048x2048, .f32⟩
  | .hbm, ⟨38, _⟩ => ⟨S_, .f32⟩
  | .hbm, ⟨39, _⟩ => ⟨S16x4x2048, .f32⟩
  | .hbm, ⟨40, _⟩ => ⟨S16x4x2048x1, .f32⟩
  | .hbm, ⟨41, _⟩ => ⟨S16x4x2048x2048, .f32⟩
  | .hbm, ⟨42, _⟩ => ⟨S16x4x2048x2048, .f32⟩
  | .hbm, ⟨43, _⟩ => ⟨S16x4x128x2048, .f32⟩
  | .hbm, ⟨44, _⟩ => ⟨S16x2048x4x128, .f32⟩
  | .hbm, ⟨45, _⟩ => ⟨S16x2048x512, .f32⟩
  | .hbm, ⟨46, _⟩ => ⟨S16x2048x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024x1024 : Shape := ⟨2, ![1024, 1024]⟩
abbrev S1024 : Shape := ⟨1, ![1024]⟩
abbrev S1024x512 : Shape := ⟨2, ![1024, 512]⟩
abbrev S2x16x256x4x128 : Shape := ⟨5, ![2, 16, 256, 4, 128]⟩
abbrev S512x1024 : Shape := ⟨2, ![512, 1024]⟩
abbrev S1024x4096 : Shape := ⟨2, ![1024, 4096]⟩
abbrev S4096x1024 : Shape := ⟨2, ![4096, 1024]⟩
abbrev S2x16x1024x128 : Shape := ⟨4, ![2, 16, 1024, 128]⟩
abbrev S1x1024 : Shape := ⟨2, ![1, 1024]⟩
abbrev S1x512x1024 : Shape := ⟨3, ![1, 512, 1024]⟩
abbrev S1x1x1024x128 : Shape := ⟨4, ![1, 1, 1024, 128]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1x1x256x128 : Shape := ⟨4, ![1, 1, 256, 128]⟩
abbrev S256x128 : Shape := ⟨2, ![256, 128]⟩
abbrev S512x256 : Shape := ⟨2, ![512, 256]⟩

abbrev nBuf : Space → Nat
  | .hbm => 24
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S2x16x256x4x128, .f32⟩
  | .hbm, ⟨6, _⟩ => ⟨S2x16x256x4x128, .f32⟩
  | .hbm, ⟨7, _⟩ => ⟨S512x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S16x2048x1024, .bf16⟩
  | .hbm, ⟨13, _⟩ => ⟨S1024x1024, .bf16⟩
  | .hbm, ⟨14, _⟩ => ⟨S1024x512, .bf16⟩
  | .hbm, ⟨15, _⟩ => ⟨S2x16x1024x128, .f32⟩
  | .hbm, ⟨16, _⟩ => ⟨S2x16x1024x128, .f32⟩
  | .hbm, ⟨17, _⟩ => ⟨S512x1024, .bf16⟩
  | .hbm, ⟨18, _⟩ => ⟨S1024x4096, .bf16⟩
  | .hbm, ⟨19, _⟩ => ⟨S4096x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x512, .bf16⟩
  | .local _ .vmem, ⟨7, _⟩ => ⟨S1x1x1024x128, .f32⟩
  | .local _ .vmem, ⟨8, _⟩ => ⟨S1x1x1024x128, .f32⟩
  | .local _ .vmem, ⟨9, _⟩ => ⟨S1x1x1024x128, .f32⟩
  | .local _ .vmem, ⟨10, _⟩ => ⟨S1x1x1024x128, .f32⟩
  | .local _ .vmem, ⟨11, _⟩ => ⟨S512x1024, .bf16⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x2048x1024 : Shape := ⟨3, ![16, 2048, 1024]⟩
abbrev S1024x1024 : Shape := ⟨2, ![1024, 1024]⟩
abbrev S1024 : Shape := ⟨1, ![1024]⟩
abbrev S1024x512 : Shape := ⟨2, ![1024, 512]⟩
abbrev S2x16x256x4x128 : Shape := ⟨5, ![2, 16, 256, 4, 128]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x512 : Shape := ⟨3, ![16, 2048, 512]⟩
abbrev S16x2048x4x128 : Shape := ⟨4, ![16, 2048, 4, 128]⟩
abbrev S1x16x256x4x128 : Shape := ⟨5, ![1, 16, 256, 4, 128]⟩
abbrev S16x256x4x128 : Shape := ⟨4, ![16, 256, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S16x2048x4096 : Shape := ⟨3, ![16, 2048, 4096]⟩

abbrev nBuf : Space → Nat
  | .hbm => 98
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S2x16x256x4x128, .f32⟩
  | .hbm, ⟨6, _⟩ => ⟨S2x16x256x4x128, .f32⟩
  | .hbm, ⟨7, _⟩ => ⟨S512x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S16x2048x512, .f32⟩
  | .hbm, ⟨31, _⟩ => ⟨S16x2048x4x128, .f32⟩
  | .hbm, ⟨32, _⟩ => ⟨S1x16x256x4x128, .f32⟩
  | .hbm, ⟨33, _⟩ => ⟨S16x256x4x128, .f32⟩
  | .hbm, ⟨34, _⟩ => ⟨S16x4x2048x256, .f32⟩
  | .hbm, ⟨35, _⟩ => ⟨S_, .f32⟩
  | .hbm, ⟨36, _⟩ => ⟨S16x4x2048x256, .f32⟩
  | .hbm, ⟨37, _⟩ => ⟨S16x4x2048x256, .f32⟩
  | .hbm, ⟨38, _⟩ => ⟨S_, .f32⟩
  | .hbm, ⟨39, _⟩ => ⟨S16x4x2048, .f32⟩
  | .hbm, ⟨40, _⟩ => ⟨S_, .f32⟩
  | .hbm, ⟨41, _⟩ => ⟨S16x4x2048, .f32⟩
  | .hbm, ⟨42, _⟩ => ⟨S16x4x2048, .f32⟩
  | .hbm, ⟨43, _⟩ => ⟨S16x4x2048x1, .f32⟩
  | .hbm, ⟨44, _⟩ => ⟨S16x4x2048x256, .f32⟩
  | .hbm, ⟨45, _⟩ => ⟨S16x4x2048x256, .f32⟩
  | .hbm, ⟨46, _⟩ => ⟨S16x4x2048x256, .f32⟩
  | .hbm, ⟨47, _⟩ => ⟨S_, .f32⟩
  | .hbm, ⟨48, _⟩ => ⟨S16x4x2048, .f32⟩
  | .hbm, ⟨49, _⟩ => ⟨S16x4x2048x1, .f32⟩
  | .hbm, ⟨50, _⟩ => ⟨S16x4x2048x256, .f32⟩
  | .hbm, ⟨51, _⟩ => ⟨S16x4x2048x256, .f32⟩
  | .hbm, ⟨52, _⟩ => ⟨S1x16x256x4x128, .f32⟩
  | .hbm, ⟨53, _⟩ => ⟨S16x256x4x128, .f32⟩
  | .hbm, ⟨54, _⟩ => ⟨S16x4x128x2048, .f32⟩
  | .hbm, ⟨55, _⟩ => ⟨S16x2048x4x128, .f32⟩
  | .hbm, ⟨56, _⟩ => ⟨S16x2048x512, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S_, .f32⟩
  | .hbm, ⟨61, _⟩ => ⟨S16x2048, .f32⟩
  | .hbm, ⟨62, _⟩ => ⟨S16x2048x1, .f32⟩
  | .hbm, ⟨63, _⟩ => ⟨S_, .f32⟩
  | .hbm, ⟨64, _⟩ => ⟨S16x2048x1, .f32⟩
  | .hbm, ⟨65, _⟩ => ⟨S16x2048x1, .f32⟩
  | .hbm, ⟨66, _⟩ => ⟨S_, .f32⟩
  | .hbm, ⟨67, _⟩ => ⟨S16x2048x1, .f32⟩
  | .hbm, ⟨68, _⟩ => ⟨S16x2048x1, .f32⟩
  | .hbm, ⟨69, _⟩ => ⟨S16x2048x1, .f32⟩
  | .hbm, ⟨70, _⟩ => ⟨S16x2048x1024, .f32⟩
  | .hbm, ⟨71, _⟩ => ⟨S16x2048x1024, .f32⟩
  | .hbm, ⟨72, _⟩ => ⟨S1x1x1024, .f32⟩
  | .hbm, ⟨73, _⟩ => ⟨S16x2048x1024, .f32⟩
  | .hbm, ⟨74, _⟩ => ⟨S16x2048x1024, .f32⟩
  | .hbm, ⟨75, _⟩ => ⟨S16x2048x4096, .f32⟩
  | .hbm, ⟨76, _⟩ => ⟨S_, .f32⟩
  | .hbm, ⟨77, _⟩ => ⟨S16x2048x4096, .f32⟩
  | .hbm, ⟨78, _⟩ => ⟨S16x2048x4096, .f32⟩
  | .hbm, ⟨79, _⟩ => ⟨S16x2048x4096, .f32⟩
  | .hbm, ⟨80, _⟩ => ⟨S16x2048x1024, .f32⟩
  | .hbm, ⟨81, _⟩ => ⟨S16x2048x1024, .f32⟩
  | .hbm, ⟨82, _⟩ => ⟨S16x2048x1024, .f32⟩
  | .hbm, ⟨83, _⟩ => ⟨S_, .f32⟩
  | .hbm, ⟨84, _⟩ => ⟨S16x2048, .f32⟩
  | .hbm, ⟨85, _⟩ => ⟨S16x2048x1, .f32⟩
  | .hbm, ⟨86, _⟩ => ⟨S_, .f32⟩
  | .hbm, ⟨87, _⟩ => ⟨S16x2048x1, .f32⟩
  | .hbm, ⟨88, _⟩ => ⟨S16x2048x1, .f32⟩
  | .hbm, ⟨89, _⟩ => ⟨S_, .f32⟩
  | .hbm, ⟨90, _⟩ => ⟨S16x2048x1, .f32⟩
  | .hbm, ⟨91, _⟩ => ⟨S16x2048x1, .f32⟩
  | .hbm, ⟨92, _⟩ => ⟨S16x2048x1, .f32⟩
  | .hbm, ⟨93, _⟩ => ⟨S16x2048x1024, .f32⟩
  | .hbm, ⟨94, _⟩ => ⟨S16x2048x1024, .f32⟩
  | .hbm, ⟨95, _⟩ => ⟨S1x1x1024, .f32⟩
  | .hbm, ⟨96, _⟩ => ⟨S16x2048x1024, .f32⟩
  | .hbm, ⟨97, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call0_cst : Ref sig .tc := ⟨.hbm, 76, rfl⟩
abbrev main_call0_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x512 : Shape := ⟨3, ![16, 2048, 512]⟩
abbrev S1024x1024 : Shape := ⟨2, ![1024, 1024]⟩
abbrev S1024 : Shape := ⟨1, ![1024]⟩
abbrev S1024x512 : Shape := ⟨2, ![1024, 512]⟩
abbrev S2x16x256x4x128 : Shape := ⟨5, ![2, 16, 256, 4, 128]⟩
abbrev S512x1024 : Shape := ⟨2, ![512, 1024]⟩
abbrev S1024x4096 : Shape := ⟨2, ![1024, 4096]⟩
abbrev S4096x1024 : Shape := ⟨2, ![4096, 1024]⟩
abbrev S2x16x1024x128 : Shape := ⟨4, ![2, 16, 1024, 128]⟩
abbrev S1x1024 : Shape := ⟨2, ![1, 1024]⟩
abbrev S1x512x1024 : Shape := ⟨3, ![1, 512, 1024]⟩
abbrev S1x512x512 : Shape := ⟨3, ![1, 512, 512]⟩
abbrev S1x1x1024x128 : Shape := ⟨4, ![1, 1, 1024, 128]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1x1x256x128 : Shape := ⟨4, ![1, 1, 256, 128]⟩
abbrev S256x128 : Shape := ⟨2, ![256, 128]⟩
abbrev S512x256 : Shape := ⟨2, ![512, 256]⟩

abbrev nBuf : Space → Nat
  | .hbm => 26
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1024x1024, .f32⟩
  | .hbm, ⟨4, _⟩ => ⟨S1024, .f32⟩
  | .hbm, ⟨5, _⟩ => ⟨S1024x512, .f32⟩
  | .hbm, ⟨6, _⟩ => ⟨S2x16x256x4x128, .f32⟩
  | .hbm, ⟨7, _⟩ => ⟨S2x16x256x4x128, .f32⟩
  | .hbm, ⟨8, _⟩ => ⟨S512x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024x1024, .bf16⟩
  | .hbm, ⟨13, _⟩ => ⟨S16x2048x512, .bf16⟩
  | .hbm, ⟨14, _⟩ => ⟨S16x2048x512, .bf16⟩
  | .hbm, ⟨15, _⟩ => ⟨S512x1024, .bf16⟩
  | .hbm, ⟨16, _⟩ => ⟨S512x1024, .bf16⟩
  | .hbm, ⟨17, _⟩ => ⟨S1024x512, .bf16⟩
  | .hbm, ⟨18, _⟩ => ⟨S2x16x1024x128, .f32⟩
  | .hbm, ⟨19, _⟩ => ⟨S2x16x1024x128, .f32⟩
  | .hbm, ⟨20, _⟩ => ⟨S512x1024, .bf16⟩
  | .hbm, ⟨21, _⟩ => ⟨S1024x4096, .bf16⟩
  | .hbm, ⟨22, _⟩ => ⟨S4096x1024, .bf16⟩
  | .hbm, ⟨23, _⟩ => ⟨S1x1024, .f32⟩
  | .hbm, ⟨24, _⟩ => ⟨S1x1024, .f32⟩
  | .hbm, ⟨25, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x512, .bf16⟩
  | .local _ .vmem, ⟨10, _⟩ => ⟨S1x1x1024x128, .f32⟩
  | .local _ .vmem, ⟨11, _⟩ => ⟨S1x1x1024x128, .f32⟩
  | .local _ .vmem, ⟨12, _⟩ => ⟨S1x1x1024x128, .f32⟩
  | .local _ .vmem, ⟨13, _⟩ => ⟨S1x1x1024x128, .f32⟩
  | .local _ .vmem, ⟨14, _⟩ => ⟨S512x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x512x1024, .f32⟩
  | .local _ .vmem, ⟨19, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S16x2048x1024 : Shape := ⟨3, ![16, 2048, 1024]⟩
abbrev S16x2048x512 : Shape := ⟨3, ![16, 2048, 512]⟩
abbrev S1024x1024 : Shape := ⟨2, ![1024, 1024]⟩
abbrev S1024 : Shape := ⟨1, ![1024]⟩
abbrev S1024x512 : Shape := ⟨2, ![1024, 512]⟩
abbrev S2x16x256x4x128 : Shape := ⟨5, ![2, 16, 256, 4, 128]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4x128 : Shape := ⟨4, ![16, 2048, 4, 128]⟩
abbrev S1x16x256x4x128 : Shape := ⟨5, ![1, 16, 256, 4, 128]⟩
abbrev S16x256x4x128 : Shape := ⟨4, ![16, 256, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S16x2048x4096 : Shape := ⟨3, ![16, 2048, 4096]⟩

abbrev nBuf : Space → Nat
  | .hbm => 83
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1024x1024, .f32⟩
  | .hbm, ⟨4, _⟩ => ⟨S1024, .f32⟩
  | .hbm, ⟨5, _⟩ => ⟨S1024x512, .f32⟩
  | .hbm, ⟨6, _⟩ => ⟨S2x16x256x4x128, .f32⟩
  | .hbm, ⟨7, _⟩ => ⟨S2x16x256x4x128, .f32⟩
  | .hbm, ⟨8, _⟩ => ⟨S512x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S16x2048x512, .f32⟩
  | .hbm, ⟨32, _⟩ => ⟨S16x2048x4x128, .f32⟩
  | .hbm, ⟨33, _⟩ => ⟨S1x16x256x4x128, .f32⟩
  | .hbm, ⟨34, _⟩ => ⟨S16x256x4x128, .f32⟩
  | .hbm, ⟨35, _⟩ => ⟨S16x4x2048x256, .f32⟩
  | .hbm, ⟨36, _⟩ => ⟨S_, .f32⟩
  | .hbm, ⟨37, _⟩ => ⟨S16x4x2048x256, .f32⟩
  | .hbm, ⟨38, _⟩ => ⟨S16x4x2048x256, .f32⟩
  | .hbm, ⟨39, _⟩ => ⟨S_, .f32⟩
  | .hbm, ⟨40, _⟩ => ⟨S16x4x2048, .f32⟩
  | .hbm, ⟨41, _⟩ => ⟨S_, .f32⟩
  | .hbm, ⟨42, _⟩ => ⟨S16x4x2048, .f32⟩
  | .hbm, ⟨43, _⟩ => ⟨S16x4x2048, .f32⟩
  | .hbm, ⟨44, _⟩ => ⟨S16x4x2048x1, .f32⟩
  | .hbm, ⟨45, _⟩ => ⟨S16x4x2048x256, .f32⟩
  | .hbm, ⟨46, _⟩ => ⟨S16x4x2048x256, .f32⟩
  | .hbm, ⟨47, _⟩ => ⟨S16x4x2048x256, .f32⟩
  | .hbm, ⟨48, _⟩ => ⟨S_, .f32⟩
  | .hbm, ⟨49, _⟩ => ⟨S16x4x2048, .f32⟩
  | .hbm, ⟨50, _⟩ => ⟨S16x4x2048x1, .f32⟩
  | .hbm, ⟨51, _⟩ => ⟨S16x4x2048x256, .f32⟩
  | .hbm, ⟨52, _⟩ => ⟨S16x4x2048x256, .f32⟩
  | .hbm, ⟨53, _⟩ => ⟨S1x16x256x4x128, .f32⟩
  | .hbm, ⟨54, _⟩ => ⟨S16x256x4x128, .f32⟩
  | .hbm, ⟨55, _⟩ => ⟨S16x4x128x2048, .f32⟩
  | .hbm, ⟨56, _⟩ => ⟨S16x2048x4x128, .f32⟩
  | .hbm, ⟨57, _⟩ => ⟨S16x2048x512, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S_, .f32⟩
  | .hbm, ⟨62, _⟩ => ⟨S16x2048, .f32⟩
  | .hbm, ⟨63, _⟩ => ⟨S16x2048x1, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S16x2048x1, .f32⟩
  | .hbm, ⟨71, _⟩ => ⟨S16x2048x1024, .f32⟩
  | .hbm, ⟨72, _⟩ => ⟨S16x2048x1024, .f32⟩
  | .hbm, ⟨73, _⟩ => ⟨S1x1x1024, .f32⟩
  | .hbm, ⟨74, _⟩ => ⟨S16x2048x1024, .f32⟩
  | .hbm, ⟨75, _⟩ => ⟨S16x2048x1024, .f32⟩
  | .hbm, ⟨76, _⟩ => ⟨S16x2048x4096, .f32⟩
  | .hbm, ⟨77, _⟩ => ⟨S_, .f32⟩
  | .hbm, ⟨78, _⟩ => ⟨S16x2048x4096, .f32⟩
  | .hbm, ⟨79, _⟩ => ⟨S16x2048x4096, .f32⟩
  | .hbm, ⟨80, _⟩ => ⟨S16x2048x4096, .f32⟩
  | .hbm, ⟨81, _⟩ => ⟨S16x2048x1024, .f32⟩
  | .hbm, ⟨82, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call0_cst : Ref sig .tc := ⟨.hbm, 77, rfl⟩
abbrev main_call0_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S1024x1536 : Shape := ⟨2, ![1024, 1536]⟩
abbrev S32768x1024 : Shape := ⟨2, ![32768, 1024]⟩
abbrev S1x1x1024 : Shape := ⟨3, ![1, 1, 1024]⟩
abbrev S1x1024x1536 : Shape := ⟨3, ![1, 1024, 1536]⟩
abbrev S1x32768x1024 : Shape := ⟨3, ![1, 32768, 1024]⟩
abbrev S1x32768x256 : Shape := ⟨3, ![1, 32768, 256]⟩
abbrev S1024x1024 : Shape := ⟨2, ![1024, 1024]⟩
abbrev S1x1024x1024 : Shape := ⟨3, ![1, 1024, 1024]⟩
abbrev S1x1024x256 : Shape := ⟨3, ![1, 1024, 256]⟩
abbrev S1x1024 : Shape := ⟨2, ![1, 1024]⟩
abbrev S1024x1 : Shape := ⟨2, ![1024, 1]⟩
abbrev S1x1024x512 : Shape := ⟨3, ![1, 1024, 512]⟩
abbrev S1024x512 : Shape := ⟨2, ![1024, 512]⟩
abbrev S1024x256 : Shape := ⟨2, ![1024, 256]⟩

abbrev nBuf : Space → Nat
  | .hbm => 10
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x1536, .f32⟩
  | .hbm, ⟨3, _⟩ => ⟨S32768x1024, .f32⟩
  | .hbm, ⟨4, _⟩ => ⟨S1024x1536, .bf16⟩
  | .hbm, ⟨5, _⟩ => ⟨S1x1x1024, .f32⟩
  | .hbm, ⟨6, _⟩ => ⟨S1x1024x1536, .bf16⟩
  | .hbm, ⟨7, _⟩ => ⟨S1x32768x1024, .bf16⟩
  | .hbm, ⟨8, _⟩ => ⟨S1x32768x256, .f32⟩
  | .hbm, ⟨9, _⟩ => ⟨S1x32768x256, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x1536, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16x2048x1024 : Shape := ⟨3, ![16, 2048, 1024]⟩
abbrev S1024 : Shape := ⟨1, ![1024]⟩
abbrev S1024x1536 : Shape := ⟨2, ![1024, 1536]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x1536 : Shape := ⟨3, ![16, 2048, 1536]⟩
abbrev S1x32768x1536 : Shape := ⟨3, ![1, 32768, 1536]⟩
abbrev S1x32768x1024 : Shape := ⟨3, ![1, 32768, 1024]⟩
abbrev S1x32768x256 : Shape := ⟨3, ![1, 32768, 256]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x1536, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x1536, .f32⟩
  | .hbm, ⟨20, _⟩ => ⟨S1x32768x1536, .f32⟩
  | .hbm, ⟨21, _⟩ => ⟨S1x32768x1024, .f32⟩
  | .hbm, ⟨22, _⟩ => ⟨S1x32768x256, .f32⟩
  | .hbm, ⟨23, _⟩ => ⟨S1x32768x256, .f32⟩
  | .hbm, ⟨24, _⟩ => ⟨S_, .f32⟩
  | .hbm, ⟨25, _⟩ => ⟨S1x32768x1024, .f32⟩
  | .hbm, ⟨26, _⟩ => ⟨S1x32768x1024, .f32⟩
  | .hbm, ⟨27, _⟩ => ⟨S1x32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel5.lean ====
abbrev S16x256x1024 : Shape := ⟨3, ![16, 256, 1024]⟩
abbrev S2x1024 : Shape := ⟨2, ![2, 1024]⟩
abbrev S2x1024x1024 : Shape := ⟨3, ![2, 1024, 1024]⟩
abbrev S4096x1024 : Shape := ⟨2, ![4096, 1024]⟩
abbrev S2x1x1024 : Shape := ⟨3, ![2, 1, 1024]⟩
abbrev S2x16384x128 : Shape := ⟨3, ![2, 16384, 128]⟩
abbrev S1024x1024 : Shape := ⟨2, ![1024, 1024]⟩
abbrev S1x1x1024 : Shape := ⟨3, ![1, 1, 1024]⟩
abbrev S1x1024x1024 : Shape := ⟨3, ![1, 1024, 1024]⟩
abbrev S1x4096x128 : Shape := ⟨3, ![1, 4096, 128]⟩
abbrev S1x1024 : Shape := ⟨2, ![1, 1024]⟩
abbrev S1024 : Shape := ⟨1, ![1024]⟩
abbrev S1024x1 : Shape := ⟨2, ![1024, 1]⟩
abbrev S1x1024x512 : Shape := ⟨3, ![1, 1024, 512]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 8
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S2x1024, .f32⟩
  | .hbm, ⟨2, _⟩ => ⟨S2x1024x1024, .f32⟩
  | .hbm, ⟨3, _⟩ => ⟨S4096x1024, .f32⟩
  | .hbm, ⟨4, _⟩ => ⟨S2x1024x1024, .bf16⟩
  | .hbm, ⟨5, _⟩ => ⟨S2x1x1024, .f32⟩
  | .hbm, ⟨6, _⟩ => ⟨S2x16384x128, .f32⟩
  | .hbm, ⟨7, _⟩ => ⟨S2x16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .bf16⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16x256x1024 : Shape := ⟨3, ![16, 256, 1024]⟩
abbrev S2x1024 : Shape := ⟨2, ![2, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S16x256x512 : Shape := ⟨3, ![16, 256, 512]⟩
abbrev S1x16x256x512 : Shape := ⟨4, ![1, 16, 256, 512]⟩
abbrev S2x16x256x512 : Shape := ⟨4, ![2, 16, 256, 512]⟩
abbrev S2x16384x128 : Shape := ⟨3, ![2, 16384, 128]⟩

abbrev nBuf : Space → Nat
  | .hbm => 57
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x1024, .f32⟩
  | .hbm, ⟨2, _⟩ => ⟨S2x1024x1024, .f32⟩
  | .hbm, ⟨3, _⟩ => ⟨S1x1024, .f32⟩
  | .hbm, ⟨4, _⟩ => ⟨S1024, .f32⟩
  | .hbm, ⟨5, _⟩ => ⟨S16x256x1024, .f32⟩
  | .hbm, ⟨6, _⟩ => ⟨S_, .f32⟩
  | .hbm, ⟨7, _⟩ => ⟨S16x256, .f32⟩
  | .hbm, ⟨8, _⟩ => ⟨S16x256x1, .f32⟩
  | .hbm, ⟨9, _⟩ => ⟨S_, .f32⟩
  | .hbm, ⟨10, _⟩ => ⟨S16x256x1, .f32⟩
  | .hbm, ⟨11, _⟩ => ⟨S16x256x1, .f32⟩
  | .hbm, ⟨12, _⟩ => ⟨S_, .f32⟩
  | .hbm, ⟨13, _⟩ => ⟨S16x256x1, .f32⟩
  | .hbm, ⟨14, _⟩ => ⟨S16x256x1, .f32⟩
  | .hbm, ⟨15, _⟩ => ⟨S16x256x1, .f32⟩
  | .hbm, ⟨16, _⟩ => ⟨S16x256x1024, .f32⟩
  | .hbm, ⟨17, _⟩ => ⟨S16x256x1024, .f32⟩
  | .hbm, ⟨18, _⟩ => ⟨S1x1x1024, .f32⟩
  | .hbm, ⟨19, _⟩ => ⟨S16x256x1024, .f32⟩
  | .hbm, ⟨20, _⟩ => ⟨S16x256x1024, .f32⟩
  | .hbm, ⟨21, _⟩ => ⟨S1x1024x1024, .f32⟩
  | .hbm, ⟨22, _⟩ => ⟨S1024x1024, .f32⟩
  | .hbm, ⟨23, _⟩ => ⟨S16x256x1024, .f32⟩
  | .hbm, ⟨24, _⟩ => ⟨S16x256x512, .f32⟩
  | .hbm, ⟨25, _⟩ => ⟨S16x256x512, .f32⟩
  | .hbm, ⟨26, _⟩ => ⟨S1x1024, .f32⟩
  | .hbm, ⟨27, _⟩ => ⟨S1024, .f32⟩
  | .hbm, ⟨28, _⟩ => ⟨S16x256x1024, .f32⟩
  | .hbm, ⟨29, _⟩ => ⟨S_, .f32⟩
  | .hbm, ⟨30, _⟩ => ⟨S16x256, .f32⟩
  | .hbm, ⟨31, _⟩ => ⟨S16x256x1, .f32⟩
  | .hbm, ⟨32, _⟩ => ⟨S_, .f32⟩
  | .hbm, ⟨33, _⟩ => ⟨S16x256x1, .f32⟩
  | .hbm, ⟨34, _⟩ => ⟨S16x256x1, .f32⟩
  | .hbm, ⟨35, _⟩ => ⟨S_, .f32⟩
  | .hbm, ⟨36, _⟩ => ⟨S16x256x1, .f32⟩
  | .hbm, ⟨37, _⟩ => ⟨S16x256x1, .f32⟩
  | .hbm, ⟨38, _⟩ => ⟨S16x256x1, .f32⟩
  | .hbm, ⟨39, _⟩ => ⟨S16x256x1024, .f32⟩
  | .hbm, ⟨40, _⟩ => ⟨S16x256x1024, .f32⟩
  | .hbm, ⟨41, _⟩ => ⟨S1x1x1024, .f32⟩
  | .hbm, ⟨42, _⟩ => ⟨S16x256x1024, .f32⟩
  | .hbm, ⟨43, _⟩ => ⟨S16x256x1024, .f32⟩
  | .hbm, ⟨44, _⟩ => ⟨S1x1024x1024, .f32⟩
  | .hbm, ⟨45, _⟩ => ⟨S1024x1024, .f32⟩
  | .hbm, ⟨46, _⟩ => ⟨S16x256x1024, .f32⟩
  | .hbm, ⟨47, _⟩ => ⟨S16x256x512, .f32⟩
  | .hbm, ⟨48, _⟩ => ⟨S16x256x512, .f32⟩
  | .hbm, ⟨49, _⟩ => ⟨S1x16x256x512, .f32⟩
  | .hbm, ⟨50, _⟩ => ⟨S1x16x256x512, .f32⟩
  | .hbm, ⟨51, _⟩ => ⟨S2x16x256x512, .f32⟩
  | .hbm, ⟨52, _⟩ => ⟨S1x16x256x512, .f32⟩
  | .hbm, ⟨53, _⟩ => ⟨S1x16x256x512, .f32⟩
  | .hbm, ⟨54, _⟩ => ⟨S2x16x256x512, .f32⟩
  | .hbm, ⟨55, _⟩ => ⟨S2x16384x128, .f32⟩
  | .hbm, ⟨56, _⟩ => ⟨S2x16384x128, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Proof.RowMath.lean ====
/-
  One query row of the forgetting attention over the extended reals, without any array: the state that the kernel
  carries for a row while it passes over the keys (a reference point `m`, the sum `l` of the weights and the weighted
  sum `a` of the values), how one chunk of keys changes it, and what the final quotient `a / l` is. The quotient is
  `soft`, the softmax-weighted sum of the values, in which the reference point no longer occurs.
-/
module

public import Idealize.ShloMosaic.PureOps.Ideal

@[expose] public section

noncomputable section

namespace Cert.Fox

open Idealize.ShloMosaic Finset

/-! ## Sums of extended reals -/

/-- A nonnegative real factor moves into a sum of extended reals, whatever the terms are. -/
theorem coe_mul_sum {ι : Type*} (S : Finset ι) (c : ℝ) (hc : 0 ≤ c) (f : ι → EReal) :
    (c : EReal) * ∑ p ∈ S, f p = ∑ p ∈ S, (c : EReal) * f p := by
  classical
  induction S using Finset.induction_on with
  | empty => simp
  | insert p S hp ih =>
    rw [sum_insert hp, sum_insert hp, ← ih,
      EReal.left_distrib_of_nonneg_of_ne_top (EReal.coe_nonneg.mpr hc) (EReal.coe_ne_top c)]

/-- A finite sum of real numbers is the same sum among the extended reals. -/
theorem coe_sum {ι : Type*} (S : Finset ι) (f : ι → ℝ) :
    ((∑ p ∈ S, f p : ℝ) : EReal) = ∑ p ∈ S, (f p : EReal) := by
  classical
  induction S using Finset.induction_on with
  | empty => simp
  | insert p S hp ih => rw [sum_insert hp, sum_insert hp, ← ih, EReal.coe_add]

/-- A sum over `W` lanes of which only the first `w` count. -/
theorem sum_lanes {M : Type*} [AddCommMonoid M] (F : ℕ → M) {w W : ℕ} (h : w ≤ W) :
    (∑ j : Fin W, if (j : ℕ) < w then F j else 0) = ∑ j ∈ range w, F j := by
  rw [Fin.sum_univ_eq_sum_range (fun j => if j < w then F j else 0) W, ← sum_filter]
  congr 1
  ext j
  simp only [mem_filter, mem_range]
  omega

/-! ## The softmax-weighted sum -/

/-- The softmax-weighted sum of the values `v` of the first `n` keys, at logits `y`: the weight of key `p` is
    `exp (y p)` over the sum of the exponentials. -/
def soft (n : ℕ) (y : ℕ → ℝ) (v : ℕ → EReal) : EReal :=
  ∑ p ∈ range n, ((Real.exp (y p) / ∑ j ∈ range n, Real.exp (y j) : ℝ) : EReal) * v p

/-! ## The running state of a row -/

/-- Weight of a key at base 2, against the reference point `M`. -/
def wt (x : ℕ → ℝ) (M : ℝ) (p : ℕ) : ℝ := Real.rpow 2 (x p - M)

/-- Weights are positive. -/
theorem wt_pos (x : ℕ → ℝ) (M : ℝ) (p : ℕ) : 0 < wt x M p := Real.rpow_pos_of_pos two_pos _

/-- The state `(m, l, a)` of a row after its first `n` keys, with base-2 logits `x` and values `v`: before any key
    `(-∞, 0, 0)`; afterwards `m` is some real number, `l` the sum of the weights against it and `a` the weighted sum. -/
def Seen (n : ℕ) (x : ℕ → ℝ) (v : ℕ → EReal) (m l a : EReal) : Prop :=
  (n = 0 ∧ m = ⊥ ∧ l = 0 ∧ a = 0) ∨
    ∃ M : ℝ, m = (M : EReal) ∧ l = ((∑ p ∈ range n, wt x M p : ℝ) : EReal)
      ∧ a = ∑ p ∈ range n, (wt x M p : EReal) * v p

/-- The state before any key. -/
theorem Seen.start (x : ℕ → ℝ) (v : ℕ → EReal) : Seen 0 x v ⊥ 0 0 := .inl ⟨rfl, rfl, rfl, rfl⟩

/-- The larger of `m` and the chunk's logits is a real number once one of the logits is one and none is `+∞`. -/
theorem max_real {W : ℕ} (m : EReal) (hm : m ≠ ⊤) (s : Fin W → EReal) (hs : ∀ j, s j ≠ ⊤) (j₀ : Fin W) (h₀ : s j₀ ≠ ⊥) :
    ∃ M : ℝ, max m (univ.fold max ⊥ s) = (M : EReal) := by
  have htop : max m (univ.fold max ⊥ s) < ⊤ := by
    refine max_lt (lt_top_iff_ne_top.mpr hm) ?_
    rw [fold_max_lt]
    exact ⟨bot_lt_top, fun j _ => lt_top_iff_ne_top.mpr (hs j)⟩
  have hbot : ⊥ < max m (univ.fold max ⊥ s) := by
    refine lt_of_lt_of_le (bot_lt_iff_ne_bot.mpr h₀) (le_trans ?_ (le_max_right _ _))
    rw [le_fold_max]
    exact .inr ⟨j₀, mem_univ _, le_rfl⟩
  exact ⟨_, (EReal.coe_toReal htop.ne hbot.ne').symm⟩

/-- Moving the reference point rescales a weight. -/
theorem wt_shift (x : ℕ → ℝ) (M M' : ℝ) (p : ℕ) : Real.rpow 2 (M - M') * wt x M p = wt x M' p := by
  unfold wt
  show (2 : ℝ) ^ (M - M') * (2 : ℝ) ^ (x p - M) = (2 : ℝ) ^ (x p - M')
  rw [← Real.rpow_add two_pos]
  congr 1
  ring

/-- A chunk's weight against a real reference point: the key's weight on the lanes that count, 0 on the others. -/
theorem chunk_wt (n w : ℕ) (x : ℕ → ℝ) (M : ℝ) (j : ℕ) (s : EReal)
    (hs : s = if j < w then (x (n + j) : EReal) else ⊥) :
    Ideal.exp2 (s - M) = if j < w then (wt x M (n + j) : EReal) else 0 := by
  rw [hs]
  split
  · rw [← EReal.coe_sub, Ideal.exp2_coe]; rfl
  · rw [EReal.bot_sub, Ideal.exp2_bot]

/-- ONE CHUNK: keys `n … n + w - 1` sit on the first `w` of the chunk's `W` lanes, the other lanes are masked to `-∞`.
    The update of the kernel takes the state after `n` keys to the state after `n + w`. -/
theorem Seen.step {n : ℕ} {x : ℕ → ℝ} {v : ℕ → EReal} {m l a : EReal} (h : Seen n x v m l a) {W : ℕ} (w : ℕ)
    (hw0 : 0 < w) (hw : w ≤ W) (s : Fin W → EReal) (hs : ∀ j : Fin W, s j = if (j : ℕ) < w then (x (n + j) : EReal) else ⊥)
    (u : Fin W → EReal) (hu : ∀ j : Fin W, (j : ℕ) < w → u j = v (n + j)) :
    Seen (n + w) x v (max m (univ.fold max ⊥ s))
      (Ideal.exp2 (m - max m (univ.fold max ⊥ s)) * l + ∑ j, Ideal.exp2 (s j - max m (univ.fold max ⊥ s)))
      (Ideal.exp2 (m - max m (univ.fold max ⊥ s)) * a + ∑ j, Ideal.exp2 (s j - max m (univ.fold max ⊥ s)) * u j) := by
  obtain ⟨M', hM'⟩ := max_real m
    (by rcases h with ⟨-, rfl, -⟩ | ⟨M, rfl, -⟩ <;> simp) s
    (fun j => by rw [hs j]; split <;> simp) ⟨0, by omega⟩ (by rw [hs]; simp [hw0])
  rw [hM']
  have hl : ∑ j : Fin W, Ideal.exp2 (s j - M') = ∑ j ∈ range w, (wt x M' (n + j) : EReal) := by
    rw [← sum_lanes (fun j => (wt x M' (n + j) : EReal)) hw]
    exact sum_congr rfl fun j _ => chunk_wt n w x M' j (s j) (hs j)
  have ha : ∑ j : Fin W, Ideal.exp2 (s j - M') * u j = ∑ j ∈ range w, (wt x M' (n + j) : EReal) * v (n + j) := by
    rw [← sum_lanes (fun j => (wt x M' (n + j) : EReal) * v (n + j)) hw]
    refine sum_congr rfl fun j _ => ?_
    rw [chunk_wt n w x M' j (s j) (hs j)]
    split
    · rw [hu j ‹_›]
    · rw [zero_mul]
  rw [hl, ha]
  right
  refine ⟨M', rfl, ?_, ?_⟩
  · rw [coe_sum, sum_range_add]
    congr 1
    rcases h with ⟨rfl, rfl, rfl, -⟩ | ⟨M, rfl, rfl, -⟩
    · simp
    · rw [← EReal.coe_sub, Ideal.exp2_coe, coe_sum, coe_mul_sum _ (Real.rpow 2 (M - M')) (Real.rpow_nonneg two_pos.le _)]
      exact sum_congr rfl fun p _ => by rw [← EReal.coe_mul, wt_shift]
  · rw [sum_range_add]
    congr 1
    rcases h with ⟨rfl, rfl, -, rfl⟩ | ⟨M, rfl, -, rfl⟩
    · simp
    · rw [← EReal.coe_sub, Ideal.exp2_coe, coe_mul_sum _ (Real.rpow 2 (M - M')) (Real.rpow_nonneg two_pos.le _)]
      exact sum_congr rfl fun p _ => by rw [← mul_assoc, ← EReal.coe_mul, wt_shift]

/-! ## Quotients -/

/-- A weighted sum over a positive total is the sum with the weights divided by the total. -/
theorem div_sum {n : ℕ} (f : ℕ → ℝ) (v : ℕ → EReal) (hL : 0 < ∑ p ∈ range n, f p) :
    Ideal.div (∑ p ∈ range n, (f p : EReal) * v p) ((∑ p ∈ range n, f p : ℝ) : EReal)
      = ∑ p ∈ range n, ((f p / ∑ j ∈ range n, f j : ℝ) : EReal) * v p := by
  rw [Ideal.div_coe hL.ne', mul_comm, coe_mul_sum _ _ (one_div_nonneg.mpr hL.le)]
  refine sum_congr rfl fun p _ => ?_
  rw [← mul_assoc, ← EReal.coe_mul]
  congr 2
  ring

/-- Weights that are all the same positive multiple of `exp (y p)` give the softmax. -/
theorem ratio_eq {n : ℕ} (f y : ℕ → ℝ) (c : ℝ) (hc : 0 < c) (hf : ∀ p, f p = c * Real.exp (y p)) (p : ℕ) :
    f p / ∑ j ∈ range n, f j = Real.exp (y p) / ∑ j ∈ range n, Real.exp (y j) := by
  simp only [hf, ← mul_sum]
  exact mul_div_mul_left _ _ hc.ne'

/-- THE KERNEL'S RESULT for a row: after `n` keys, whose base-2 logits are `y · log₂ e`, the quotient of the state is the
    softmax-weighted sum. -/
theorem Seen.quot {n : ℕ} {x y : ℕ → ℝ} {v : ℕ → EReal} {m l a : EReal} (h : Seen n x v m l a) (hn : 0 < n)
    (hx : ∀ p, x p = y p * (1 / Real.log 2)) : Ideal.div a l = soft n y v := by
  rcases h with ⟨rfl, -⟩ | ⟨M, -, rfl, rfl⟩
  · omega
  have hL : 0 < ∑ p ∈ range n, wt x M p := sum_pos (fun p _ => wt_pos x M p) ⟨0, mem_range.mpr hn⟩
  rw [div_sum _ _ hL]
  refine sum_congr rfl fun p _ => ?_
  rw [ratio_eq (wt x M) y ((2 : ℝ) ^ (-M)) (Real.rpow_pos_of_pos two_pos _) fun p => ?_]
  have hlog : Real.log 2 ≠ 0 := (Real.log_pos one_lt_two).ne'
  unfold wt
  show (2 : ℝ) ^ (x p - M) = (2 : ℝ) ^ (-M) * Real.exp (y p)
  rw [show x p - M = -M + x p by ring, Real.rpow_add two_pos, hx, Real.rpow_def_of_pos two_pos (y p * _)]
  congr 2
  field_simp

/-- THE REFERENCE'S RESULT for a row: the logits of the first `n` of `N` keys are `z = y + c`, the others are masked to
    `-∞`; exponentials against the largest logit, over their sum, times the values. -/
theorem softmax_row {N n : ℕ} (hn : 0 < n) (hN : n ≤ N) (y : ℕ → ℝ) (c : ℝ) (v : ℕ → EReal) (s : Fin N → EReal)
    (hs : ∀ j : Fin N, s j = if (j : ℕ) < n then ((y j + c : ℝ) : EReal) else ⊥) (u : Fin N → EReal)
    (hu : ∀ j : Fin N, u j = v j) :
    ∑ j, Ideal.div (Ideal.exp (s j - univ.fold max ⊥ s)) (∑ k, Ideal.exp (s k - univ.fold max ⊥ s)) * u j = soft n y v := by
  obtain ⟨M, hM⟩ := max_real ⊥ bot_ne_top s (fun j => by rw [hs j]; split <;> [exact EReal.coe_ne_top _; exact bot_ne_top]) ⟨0, by omega⟩
    (by rw [hs]; simp only [hn, if_true]; exact EReal.coe_ne_bot _)
  rw [max_eq_right bot_le] at hM
  rw [hM]
  have hw : ∀ j : Fin N, Ideal.exp (s j - M) = if (j : ℕ) < n then ((Real.exp (y j + c - M) : ℝ) : EReal) else 0 := fun j => by
    rw [hs j]
    split
    · rw [← EReal.coe_sub, Ideal.exp_coe]
    · rw [EReal.bot_sub, Ideal.exp_bot]
  have hsum : ∑ k : Fin N, Ideal.exp (s k - M) = ((∑ p ∈ range n, Real.exp (y p + c - M) : ℝ) : EReal) := by
    rw [coe_sum, ← sum_lanes (fun j => ((Real.exp (y j + c - M) : ℝ) : EReal)) hN]
    exact sum_congr rfl fun j _ => hw j
  have hL : 0 < ∑ p ∈ range n, Real.exp (y p + c - M) := sum_pos (fun p _ => Real.exp_pos _) ⟨0, mem_range.mpr hn⟩
  rw [hsum]
  unfold soft
  rw [← sum_lanes (fun p => ((Real.exp (y p) / ∑ j ∈ range n, Real.exp (y j) : ℝ) : EReal) * v p) hN]
  refine sum_congr rfl fun j _ => ?_
  rw [hw j, hu j, Ideal.div_coe hL.ne']
  split
  · rw [← EReal.coe_mul, mul_one_div, ratio_eq (fun p => Real.exp (y p + c - M)) y (Real.exp (c - M)) (Real.exp_pos _) fun p => ?_]
    rw [← Real.exp_add]; congr 1; ring
  · rw [zero_mul, zero_mul]

/-- The word of minus infinity. -/
theorem neg_inf : Ideal.ofBits FTy.f32 4286578688#32 = (⊥ : EReal) := by
  simp [Ideal.ofBits, Ideal.ieee]

/-- The word of 128, the width of a head. -/
theorem width_at : Ideal.ofBits FTy.f32 1124073472#32 = ((128 : ℝ) : EReal) := by
  simp [Ideal.ofBits, Ideal.ieee, -EReal.coe_mul]; norm_num

/-- Position `p` of a sequence of 2048, for every natural number. -/
def at' (p : ℕ) : Fin 2048 := ⟨p % 2048, Nat.mod_lt _ (by norm_num)⟩

/-- A position below 2048 is itself. -/
theorem at'_val (p : Fin 2048) : at' p = p := Fin.ext (Nat.mod_eq_of_lt p.isLt)

/-- Column `d` of head `h` in an array that keeps the four heads side by side. -/
def col (h : Fin 4) (d : Fin 128) : Fin 512 := ⟨128 * h + d, by omega⟩

/-- The head and the position within the head of a column. -/
def head (j : Fin 512) : Fin 4 := ⟨j / 128, by omega⟩
/-- The position within the head. -/
def lane (j : Fin 512) : Fin 128 := ⟨j % 128, Nat.mod_lt _ (by norm_num)⟩

/-- A column's head, -/
theorem head_col (h : Fin 4) (d : Fin 128) : head (col h d) = h := Fin.ext (by show (128 * h.val + d.val) / 128 = h.val; omega)
/-- its position within the head, -/
theorem lane_col (h : Fin 4) (d : Fin 128) : lane (col h d) = d := Fin.ext (by show (128 * h.val + d.val) % 128 = d.val; omega)
/-- and the column again. -/
theorem col_head_lane (j : Fin 512) : col (head j) (lane j) = j := Fin.ext (by show 128 * (j.val / 128) + j.val % 128 = j.val; omega)

/-- The logit of key `p` for query `i`, up to what depends on the query alone: the inner product over
the square root of the head's width, less the key's cumulative log-forget. -/
def logit (q k : Fin 16 → Fin 2048 → Fin 512 → EReal) (f : Fin 16 → Fin 4 → Fin 2048 → EReal)
    (b : Fin 16) (i : Fin 2048) (h : Fin 4) (p : ℕ) : ℝ :=
  (∑ e : Fin 128, (q b i (col h e)).toReal * (k b (at' p) (col h e)).toReal) / √128 - (f b h (at' p)).toReal

/-- The forgetting attention: a softmax over the keys up to the query's own position, applied to the values. -/
def attn (q k v : Fin 16 → Fin 2048 → Fin 512 → EReal) (f : Fin 16 → Fin 4 → Fin 2048 → EReal)
    (b : Fin 16) (i : Fin 2048) (h : Fin 4) (d : Fin 128) : EReal :=
  soft (i + 1) (logit q k f b i h) (fun p => v b (at' p) (col h d))

end Cert.Fox

end
-- ==== Proof.Body.lean ====
module

public import proofs.«01_k».proof.Proof.RowMath
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Fox

open Cert.KernelIdeal Cert.KernelIdeal.Gen Idealize.ShloMosaic Idealize.ShloMosaic.TcCoe Idealize.SL.Sem
open Idealize.ShloMosaic.Pipeline (Dat)
open Cert.Fox (neg_inf)

/-- The masked logit is minus infinity. -/
theorem mask_bot : (Named.named κ "mask" 4048155338#32 : Ideal .f32) = (⊥ : EReal) := by
  rfl

/-- The online softmax of the rows of a block: after `n` keys, row `r`'s running maximum, weight sum
and weighted value sums are those of the base-2 logits `x` and the values `v`. -/
def St (n : ℕ) (x : ℕ → ℝ) (v : Fin 128 → ℕ → EReal) (r : Fin 256) (m l : FVec Ideal S256x1 .f32)
    (a : FVec Ideal S256x128 .f32) : Prop :=
  ∀ d, Cert.Fox.Seen n x (v d) (m (ix2 r 0)) (l (ix2 r 0)) (a (ix2 r d))

variable {n w : ℕ} {x y : ℕ → ℝ} {v : Fin 128 → ℕ → EReal} {r : Fin 256} {m l : FVec Ideal S256x1 .f32}
  {a : FVec Ideal S256x128 .f32}

/-- A block of 512 keys takes every row's state on by the keys it may see. -/
theorem step512 (h : St n x v r m l a) (hw0 : 0 < w) (hw : w ≤ 512) (s : FVec Ideal S256x512 .f32)
    (u : FVec Ideal S512x128 .bf16) (hs : ∀ j : Fin 512, s (ix2 r j) = if ↑j < w then ((x (n + j) : ℝ) : EReal) else ⊥)
    (hu : ∀ d (j : Fin 512), ↑j < w → u (ix2 j d) = v d (n + j)) :
    St (n + w) x v r (k0_pay10 (F := Ideal) m s) (k0_pay22 (F := Ideal) m l s)
      (k0_pay66 (F := Ideal) a (k0_pay14 m s) (k0_pay26 m u s)) := by
  intro d
  have e := (h d).step w hw0 hw (fun j => s (ix2 r j)) hs (fun j => u (ix2 j d)) (hu d)
  have e1 : k0_pay10 (F := Ideal) m s (ix2 r 0) = max (m (ix2 r 0)) (Finset.univ.fold max ⊥ fun k : Fin 512 => s (ix2 r k)) := by
    unfold k0_pay10; pointwise; rw [neg_inf]
  rw [← e1] at e
  unfold k0_pay22 k0_pay66 k0_pay26 k0_pay18 k0_pay14
  pointwise
  exact e

/-- The last block of the first chunk and the final quotient give the softmax-weighted sum. -/
theorem out256 (h : St n x v r m l a) (hw0 : 0 < w) (hw : w ≤ 256) (s : FVec Ideal S256x256 .f32)
    (u : FVec Ideal S256x128 .bf16) (hs : ∀ j : Fin 256, s (ix2 r j) = if ↑j < w then ((x (n + j) : ℝ) : EReal) else ⊥)
    (hu : ∀ d (j : Fin 256), ↑j < w → u (ix2 j d) = v d (n + j)) (hx : ∀ p, x p = y p * (1 / Real.log 2)) (d : Fin 128) :
    k0_pay103 (F := Ideal) a (k0_pay89 m s) (k0_pay97 m l s) (k0_pay101 m s u) (ix3 0 r d) = Cert.Fox.soft (n + w) y (v d) := by
  have e := ((h d).step w hw0 hw (fun j => s (ix2 r j)) hs (fun j => u (ix2 j d)) (hu d)).quot (by omega) hx
  unfold k0_pay103 k0_pay101 k0_pay97 k0_pay93 k0_pay89 k0_pay85
  pointwise
  rw [neg_inf]
  exact e

/-- The same for the second chunk, whose last block has 512 keys. -/
theorem out512 (h : St n x v r m l a) (hw0 : 0 < w) (hw : w ≤ 512) (s : FVec Ideal S256x512 .f32)
    (u : FVec Ideal S512x128 .bf16) (hs : ∀ j : Fin 512, s (ix2 r j) = if ↑j < w then ((x (n + j) : ℝ) : EReal) else ⊥)
    (hu : ∀ d (j : Fin 512), ↑j < w → u (ix2 j d) = v d (n + j)) (hx : ∀ p, x p = y p * (1 / Real.log 2)) (d : Fin 128) :
    k0_pay104 (F := Ideal) a u (k0_pay90 m s) (k0_pay98 m l s) (k0_pay102 m s) (ix3 0 r d) = Cert.Fox.soft (n + w) y (v d) := by
  have e := ((h d).step w hw0 hw (fun j => s (ix2 r j)) hs (fun j => u (ix2 j d)) (hu d)).quot (by omega) hx
  unfold k0_pay104 k0_pay102 k0_pay98 k0_pay94 k0_pay90 k0_pay86
  pointwise
  rw [neg_inf]
  exact e

/-- The third, with 768. -/
theorem out768 (h : St n x v r m l a) (hw0 : 0 < w) (hw : w ≤ 768) (s : FVec Ideal S256x768 .f32)
    (u : FVec Ideal S768x128 .bf16) (hs : ∀ j : Fin 768, s (ix2 r j) = if ↑j < w then ((x (n + j) : ℝ) : EReal) else ⊥)
    (hu : ∀ d (j : Fin 768), ↑j < w → u (ix2 j d) = v d (n + j)) (hx : ∀ p, x p = y p * (1 / Real.log 2)) (d : Fin 128) :
    k0_pay105 (F := Ideal) a u (k0_pay91 m s) (k0_pay95 m s) (k0_pay99 m l s) (ix3 0 r d) = Cert.Fox.soft (n + w) y (v d) := by
  have e := ((h d).step w hw0 hw (fun j => s (ix2 r j)) hs (fun j => u (ix2 j d)) (hu d)).quot (by omega) hx
  unfold k0_pay105 k0_pay99 k0_pay95 k0_pay91 k0_pay87
  pointwise
  rw [neg_inf]
  exact e

/-- The fourth, with 1024. -/
theorem out1024 (h : St n x v r m l a) (hw0 : 0 < w) (hw : w ≤ 1024) (s : FVec Ideal S256x1024 .f32)
    (u : FVec Ideal S1024x128 .bf16) (hs : ∀ j : Fin 1024, s (ix2 r j) = if ↑j < w then ((x (n + j) : ℝ) : EReal) else ⊥)
    (hu : ∀ d (j : Fin 1024), ↑j < w → u (ix2 j d) = v d (n + j)) (hx : ∀ p, x p = y p * (1 / Real.log 2)) (d : Fin 128) :
    k0_pay106 (F := Ideal) a u (k0_pay92 m s) (k0_pay96 m s) (k0_pay100 m l s) (ix3 0 r d) = Cert.Fox.soft (n + w) y (v d) := by
  have e := ((h d).step w hw0 hw (fun j => s (ix2 r j)) hs (fun j => u (ix2 j d)) (hu d)).quot (by omega) hx
  unfold k0_pay106 k0_pay100 k0_pay96 k0_pay92 k0_pay88
  pointwise
  rw [neg_inf]
  exact e

/-- The three updates of a chunk's running values by a block of 512 keys with logits `s`. -/
def upM (m : FVec Ideal S256x1 .f32) (s : FVec Ideal S256x512 .f32) : FVec Ideal S256x1 .f32 := k0_pay10 m s
/-- The sum of the weights. -/
def upL (m l : FVec Ideal S256x1 .f32) (s : FVec Ideal S256x512 .f32) : FVec Ideal S256x1 .f32 := k0_pay22 m l s
/-- The weighted sum of the values. -/
def upA (m : FVec Ideal S256x1 .f32) (a : FVec Ideal S256x128 .f32) (u : FVec Ideal S512x128 .bf16)
    (s : FVec Ideal S256x512 .f32) : FVec Ideal S256x128 .f32 := k0_pay66 a (k0_pay14 m s) (k0_pay26 m u s)
/-- The logits of a chunk of 256 queries against 512 keys. -/
def sc (q : Vec Ideal S1x256x128 .bf16) (kk : Vec Ideal S1x512x128 .bf16) (f0 f1 : Vec Ideal S1x1x1x256 .f32) :
    FVec Ideal S256x512 .f32 := k0_pay4 (k0_pay57 q) kk f0 f1

/-- One trip of the loop over the earlier keys, by its loads and the four chunks' updates. -/
theorem trip_eq (𝒱 : Variants) (c : Dev nD) (bd : Option 𝒱.V) (i : grid0.Coords) (arg3 : Memref sig .tc .vmem S1x1024x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x1x8x256 .f32) (harg6 : arg6.IsWhole) (arg7 : Memref sig .tc .vmem S1x1024x128 .bf16) (harg7 : arg7.IsWhole) (v0 : Vec Ideal S1x256x128 .bf16) (v2 : Vec Ideal S1x256x128 .bf16) (v4 : Vec Ideal S1x256x128 .bf16) (v6 : Vec Ideal S1x256x128 .bf16) (X_arg4 : Vec Ideal S1x2048x128 .bf16) (X_arg5 : Vec Ideal S1x2048x128 .bf16) (X_arg6 : Vec Ideal S1x1x8x256 .f32) (k : Fin (k0_t1_loop i).trips)
  (m0 l0 m1 l1 m2 l2 m3 l3 : FVec Ideal S256x1 .f32) (a0 a1 a2 a3 : FVec Ideal S256x128 .f32)
    (kk vv : Vec Ideal S1x512x128 .bf16) (f0 f1 : Vec Ideal S1x1x1x256 .f32)
    (hkk : kk = View.readAt (Elt Ideal) arg4.view (Rect.unit (s := S1x2048x128) (k0_off1 i k) S1x512x128.size (k0_off1_inb i k)).toLoadRect (harg4.unread X_arg4))
    (hvv : vv = View.readAt (Elt Ideal) arg5.view (Rect.unit (s := S1x2048x128) (k0_off1 i k) S1x512x128.size (k0_off1_inb i k)).toLoadRect (harg5.unread X_arg5))
    (hf0 : f0 = View.readAt (Elt Ideal) arg6.view (Rect.unit (s := S1x1x8x256) (k0_off2 i k 0#32) S1x1x1x256.size (k0_off2_inb i k 0)).toLoadRect (harg6.unread X_arg6))
    (hf1 : f1 = View.readAt (Elt Ideal) arg6.view (Rect.unit (s := S1x1x8x256) (k0_off2 i k 1#32) S1x1x1x256.size (k0_off2_inb i k 1)).toLoadRect (harg6.unread X_arg6)) :
    tripR_k0_t1 (F := Ideal) 𝒱 c bd i arg3 harg3 arg4 harg4 arg5 harg5 arg6 harg6 arg7 harg7 v0 v2 v4 v6 (harg4.unread X_arg4) (harg5.unread X_arg5) (harg6.unread X_arg6) k (m0,l0,a0,m1,l1,a1,m2,l2,a2,m3,l3,a3)
      = (upM m0 (sc v0 kk f0 f1), upL m0 l0 (sc v0 kk f0 f1), upA m0 a0 (k0_pay2 vv) (sc v0 kk f0 f1),
         upM m1 (sc v2 kk f0 f1), upL m1 l1 (sc v2 kk f0 f1), upA m1 a1 (k0_pay2 vv) (sc v2 kk f0 f1),
         upM m2 (sc v4 kk f0 f1), upL m2 l2 (sc v4 kk f0 f1), upA m2 a2 (k0_pay2 vv) (sc v4 kk f0 f1),
         upM m3 (sc v6 kk f0 f1), upL m3 l3 (sc v6 kk f0 f1), upA m3 a3 (k0_pay2 vv) (sc v6 kk f0 f1)) := by
  subst hkk hvv hf0 hf1
  unfold tripR_k0_t1 trip_k0_t1
  rfl

/-- The causal mask compares positions as words; below these bounds that compares them as numbers. -/
theorem mask_sel {α : Type} (j r c : ℕ) (hj : j < 1024) (hr : r < 256) (hc : c < 1024) (A B : α) :
    Scalar.select (IntOp.cmpi CmpIPredicate.sle (BitVec.ofNat 32 j) (IntOp.addi (BitVec.ofNat 32 r) (BitVec.ofNat 32 c))) A B
      = if j < c + r + 1 then A else B := by
  have e : (BitVec.ofNat 32 j).sle (BitVec.ofNat 32 r + BitVec.ofNat 32 c) = decide (j < c + r + 1) := by
    rw [BitVec.sle_eq_decide]
    congr 1
    rw [← BitVec.ofNat_add, BitVec.toInt_eq_toNat_of_lt, BitVec.toInt_eq_toNat_of_lt] <;> simp <;> omega
  simp only [IntOp.cmpi, IntOp.addi, Scalar.select, e]
  by_cases h : j < c + r + 1 <;> simp [h]

/-- The base-2 logit of key `p` for a query `Q`: the scaled inner product less the key's cumulative log-forget. -/
def lx (Q : Fin 128 → ℝ) (K : ℕ → Fin 128 → ℝ) (f : ℕ → ℝ) (p : ℕ) : ℝ := (∑ e, Q e * K p e) - f p

/-- Real queries, keys and log-forgets give a real logit. -/
theorem lx_coe {Q : Fin 128 → ℝ} {K : ℕ → Fin 128 → ℝ} {f : ℕ → ℝ} {p : ℕ} {q k : Fin 128 → EReal} {g : EReal}
    (hq : ∀ e, q e = Q e) (hk : ∀ e, k e = K p e) (hg : g = f p) : (∑ e, q e * k e) - g = (lx Q K f p : ℝ) := by
  simp only [hq, hk, hg, lx, EReal.coe_sub, ← EReal.coe_mul, Cert.Fox.coe_sum]

section Scores
variable {Q : Fin 128 → ℝ} {K : ℕ → Fin 128 → ℝ} {f : ℕ → ℝ} {q : Vec Ideal S1x256x128 .bf16}
  {f0 f1 f2 f3 : Vec Ideal S1x1x1x256 .f32}

/-- A block of 512 earlier keys: its logits. -/
theorem sc_at (kk : Vec Ideal S1x512x128 .bf16) (hq : ∀ e, q (ix3 0 r e) = Q e) (hk : ∀ (j : Fin 512) e, kk (ix3 0 j e) = K (n + j) e)
    (h0 : ∀ j : Fin 256, f0 (ix4 0 0 0 j) = f (n + j)) (h1 : ∀ j : Fin 256, f1 (ix4 0 0 0 j) = f (n + (256 + j))) (j : Fin 512) :
    sc q kk f0 f1 (ix2 r j) = (lx Q K f (n + j) : ℝ) := by
  unfold sc k0_pay4 k0_pay3 k0_pay1 k0_pay57
  pointwise
  refine lx_coe hq (hk j) ?_
  split
  · exact h0 _
  · rw [h1]; congr 2; show n + (256 + (j.1 - 256)) = n + j.1; omega

/-- The first chunk's logits against its last block, masked after the query's own position. -/
theorem diag0_at (kk : Vec Ideal S1x256x128 .bf16) (hq : ∀ e, q (ix3 0 r e) = Q e) (hk : ∀ (j : Fin 256) e, kk (ix3 0 j e) = K (n + j) e)
    (h0 : ∀ j : Fin 256, f0 (ix4 0 0 0 j) = f (n + j)) (j : Fin 256) :
    k0_pay76 (F := Ideal) (k0_pay57 q) (k0_pay72 f0) kk (ix2 r j)
      = if j.val < r.val + 1 then ((lx Q K f (n + j) : ℝ) : EReal) else ⊥ := by
  unfold k0_pay76 k0_pay57 k0_pay72
  pointwise
  rw [mask_bot, mask_sel j.val r.val 0 (by omega) (by omega) (by omega), Nat.zero_add]
  rw [lx_coe (f := f) hq (hk j) (h0 j)]

/-- The second chunk's. -/
theorem diag1_at (kk : Vec Ideal S1x512x128 .bf16) (hq : ∀ e, q (ix3 0 r e) = Q e) (hk : ∀ (j : Fin 512) e, kk (ix3 0 j e) = K (n + j) e)
    (h0 : ∀ j : Fin 256, f0 (ix4 0 0 0 j) = f (n + j)) (h1 : ∀ j : Fin 256, f1 (ix4 0 0 0 j) = f (n + (256 + j))) (j : Fin 512) :
    k0_pay79 (F := Ideal) (k0_pay78 (k0_pay58 q) (k0_pay72 f0) f1 kk) (iota .tc S256x512 32 [0] iota_S256x512_d0_w32) 256#32 (ix2 r j)
      = if j.val < 256 + r.val + 1 then ((lx Q K f (n + j) : ℝ) : EReal) else ⊥ := by
  unfold k0_pay79 k0_pay78 k0_pay58 k0_pay72 k0_pay73
  pointwise
  rw [mask_bot, mask_sel j.val r.val 256 (by omega) (by omega) (by omega)]
  rw [lx_coe (f := f) hq (hk j) ?_]
  split
  · exact h0 _
  · rw [h1]; congr 2; show n + (256 + (j.1 - 256)) = n + j.1; omega

/-- The third's. -/
theorem diag2_at (kk : Vec Ideal S1x768x128 .bf16) (hq : ∀ e, q (ix3 0 r e) = Q e) (hk : ∀ (j : Fin 768) e, kk (ix3 0 j e) = K (n + j) e)
    (h0 : ∀ j : Fin 256, f0 (ix4 0 0 0 j) = f (n + j)) (h1 : ∀ j : Fin 256, f1 (ix4 0 0 0 j) = f (n + (256 + j)))
    (h2 : ∀ j : Fin 256, f2 (ix4 0 0 0 j) = f (n + (512 + j))) (j : Fin 768) :
    k0_pay81 (F := Ideal) (k0_pay59 q) (k0_pay72 f0) (k0_pay73 f1) (k0_pay74 f2) kk (ix2 r j)
      = if j.val < 512 + r.val + 1 then ((lx Q K f (n + j) : ℝ) : EReal) else ⊥ := by
  unfold k0_pay81 k0_pay59 k0_pay72 k0_pay73 k0_pay74
  pointwise
  rw [mask_bot, mask_sel j.val r.val 512 (by omega) (by omega) (by omega)]
  rw [lx_coe (f := f) hq (hk j) ?_]
  split
  · exact h0 _
  split
  · rw [h1]; congr 2; show n + (256 + (j.1 - 256)) = n + j.1; omega
  · rw [h2]; congr 2; show n + (512 + (j.1 - 256 - 256)) = n + j.1; omega

/-- The fourth's. -/
theorem diag3_at (kk : Vec Ideal S1x1024x128 .bf16) (hq : ∀ e, q (ix3 0 r e) = Q e) (hk : ∀ (j : Fin 1024) e, kk (ix3 0 j e) = K (n + j) e)
    (h0 : ∀ j : Fin 256, f0 (ix4 0 0 0 j) = f (n + j)) (h1 : ∀ j : Fin 256, f1 (ix4 0 0 0 j) = f (n + (256 + j)))
    (h2 : ∀ j : Fin 256, f2 (ix4 0 0 0 j) = f (n + (512 + j))) (h3 : ∀ j : Fin 256, f3 (ix4 0 0 0 j) = f (n + (768 + j))) (j : Fin 1024) :
    k0_pay83 (F := Ideal) (k0_pay60 q) (k0_pay72 f0) (k0_pay73 f1) (k0_pay74 f2) (k0_pay75 f3) kk (ix2 r j)
      = if j.val < 768 + r.val + 1 then ((lx Q K f (n + j) : ℝ) : EReal) else ⊥ := by
  unfold k0_pay83 k0_pay60 k0_pay72 k0_pay73 k0_pay74 k0_pay75
  pointwise
  rw [mask_bot, mask_sel j.val r.val 768 (by omega) (by omega) (by omega)]
  rw [lx_coe (f := f) hq (hk j) ?_]
  split
  · exact h0 _
  split
  · rw [h1]; congr 2; show n + (256 + (j.1 - 256)) = n + j.1; omega
  split
  · rw [h2]; congr 2; show n + (512 + (j.1 - 256 - 256)) = n + j.1; omega
  · rw [h3]; congr 2; show n + (768 + (j.1 - 256 - 256 - 256)) = n + j.1; omega

end Scores

/-- The first loop passes over the 512-key blocks before the query block. -/
theorem trips1 : ∀ i : grid0.Coords, (k0_t1_loop i).trips = 2 * (i 2).val := by decide +kernel
/-- The second loop is the remainder of the first and is empty. -/
theorem trips2 : ∀ i : grid0.Coords, (k0_t2_loop i).trips = 0 := by decide +kernel

end Cert.KernelIdeal.Fox
end
-- ==== Proof.Loop.lean ====
module

public import proofs.«01_k».proof.Proof.Body
public import Idealize.ShloMosaic.Lib.Pipeline.ValueKit
public import Idealize.ShloMosaic.Lib.Pointwise

@[expose] public section

set_option maxRecDepth 16384

noncomputable section

namespace Cert.KernelIdeal.Fox

open Cert.KernelIdeal Cert.KernelIdeal.Gen Idealize.ShloMosaic Idealize.ShloMosaic.TcCoe Idealize.SL.Sem
open Idealize.ShloMosaic.Pipeline (Dat)

/-- The twelve values the loop carries: a running maximum, weight sum and weighted value sum per chunk. -/
abbrev Acc := FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32

variable {QQ : ℕ → Fin 128 → ℝ} {K : ℕ → Fin 128 → ℝ} {f : ℕ → ℝ} {v : Fin 128 → ℕ → EReal}

/-- Each chunk's running values after `n` keys; `QQ` are the block's queries by row. -/
def Inv (n : ℕ) (QQ : ℕ → Fin 128 → ℝ) (K : ℕ → Fin 128 → ℝ) (f : ℕ → ℝ) (v : Fin 128 → ℕ → EReal) (s : Acc) : Prop :=
  ∀ r : Fin 256,
    St n (lx (QQ r) K f) v r s.1 s.2.1 s.2.2.1
    ∧ St n (lx (QQ (256 + r)) K f) v r s.2.2.2.1 s.2.2.2.2.1 s.2.2.2.2.2.1
    ∧ St n (lx (QQ (512 + r)) K f) v r s.2.2.2.2.2.2.1 s.2.2.2.2.2.2.2.1 s.2.2.2.2.2.2.2.2.1
    ∧ St n (lx (QQ (768 + r)) K f) v r s.2.2.2.2.2.2.2.2.2.1 s.2.2.2.2.2.2.2.2.2.2.1 s.2.2.2.2.2.2.2.2.2.2.2

/-- What a load of a rectangle reads. -/
theorem readAt_at {s : Shape} {e : EltTy} {mr : Memref sig .tc .vmem s e} (h : mr.IsWhole) (X : Vec Ideal s e)
    (off size : Fin s.rank → Nat) (inb) (x : (Rect.unit off size inb).shape.Idx) (i : s.Idx) (hi : ∀ a, (i a : Nat) = off a + x a) :
    View.readAt (Elt Ideal) mr.view (Rect.unit off size inb).toLoadRect (h.unread X) x = X i := by
  rw [View.readAt_eq_ld, h.read_unread]
  exact View.ld_unit_apply_of X off size inb x i hi

/-- Before the loop nothing has been seen. -/
theorem inv_start : Inv 0 QQ K f v (k0_pay61, k0_pay62, k0_pay63, k0_pay61, k0_pay62, k0_pay63, k0_pay61, k0_pay62, k0_pay63, k0_pay61, k0_pay62, k0_pay63) := by
  have h (x : ℕ → ℝ) (r : Fin 256) : St 0 x v r (k0_pay61 (F := Ideal)) (k0_pay62 (F := Ideal)) (k0_pay63 (F := Ideal)) := by
    intro d
    have e := Cert.Fox.Seen.start x (v d)
    unfold k0_pay61 k0_pay62 k0_pay63
    pointwise
    rw [mask_bot]
    exact e
  exact fun r => ⟨h _ r, h _ r, h _ r, h _ r⟩

section Loop
variable (𝒱 : Variants) (c : Dev nD) (bd : Option 𝒱.V) (i : grid0.Coords) (arg3 : Memref sig .tc .vmem S1x1024x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x1x8x256 .f32) (harg6 : arg6.IsWhole) (arg7 : Memref sig .tc .vmem S1x1024x128 .bf16) (harg7 : arg7.IsWhole) (v0 : Vec Ideal S1x256x128 .bf16) (v2 : Vec Ideal S1x256x128 .bf16) (v4 : Vec Ideal S1x256x128 .bf16) (v6 : Vec Ideal S1x256x128 .bf16)
  (X4 X5 : Vec Ideal S1x2048x128 .bf16) (X6 : Vec Ideal S1x1x8x256 .f32)

/-- One trip takes all four chunks on by 512 keys. -/
theorem inv_step
    (hq0 : ∀ (r : Fin 256) e, v0 (ix3 0 r e) = QQ r e) (hq1 : ∀ (r : Fin 256) e, v2 (ix3 0 r e) = QQ (256 + r) e)
    (hq2 : ∀ (r : Fin 256) e, v4 (ix3 0 r e) = QQ (512 + r) e) (hq3 : ∀ (r : Fin 256) e, v6 (ix3 0 r e) = QQ (768 + r) e)
    (hk : ∀ (p : Fin 2048) e, X4 (ix3 0 p e) = K p e) (hv : ∀ (p : Fin 2048) d, X5 (ix3 0 p d) = v d p)
    (hf : ∀ (a : Fin 8) (b : Fin 256), X6 (ix4 0 0 a b) = f (256 * a + b))
    (k : Fin (k0_t1_loop i).trips) (s : Acc) (h : Inv (512 * k) QQ K f v s) :
    Inv (512 * k + 512) QQ K f v (tripR_k0_t1 (F := Ideal) 𝒱 c bd i arg3 harg3 arg4 harg4 arg5 harg5 arg6 harg6 arg7 harg7 v0 v2 v4 v6 (harg4.unread X4) (harg5.unread X5) (harg6.unread X6) k s) := by
  obtain ⟨m0, l0, a0, m1, l1, a1, m2, l2, a2, m3, l3, a3⟩ := s
  have hk2 : (k : ℕ) < 2 := Nat.lt_of_lt_of_le k.isLt (k0_t1_abs i).2.1
  rw [trip_eq (kk := _) (vv := _) (f0 := _) (f1 := _) (hkk := rfl) (hvv := rfl) (hf0 := rfl) (hf1 := rfl)]
  have rk : ∀ (j : Fin 512) (e : Fin 128), View.readAt (Elt Ideal) arg4.view (Rect.unit (s := S1x2048x128) (k0_off1 i k) S1x512x128.size (k0_off1_inb i k)).toLoadRect (harg4.unread X4) (ix3 0 j e) = K (512 * k + j) e := by
    intro j e
    rw [readAt_at harg4 X4 _ _ _ _ (ix3 0 ⟨512 * k + j, by omega⟩ e)]
    · exact hk _ e
    · intro a; rw [congrFun (k0_off1_eq i k) a]; fin_cases a <;> simp [ix3]
  have rv : ∀ (d : Fin 128) (j : Fin 512), View.readAt (Elt Ideal) arg5.view (Rect.unit (s := S1x2048x128) (k0_off1 i k) S1x512x128.size (k0_off1_inb i k)).toLoadRect (harg5.unread X5) (ix3 0 j d) = v d (512 * k + j) := by
    intro d j
    rw [readAt_at harg5 X5 _ _ _ _ (ix3 0 ⟨512 * k + j, by omega⟩ d)]
    · exact hv _ d
    · intro a; rw [congrFun (k0_off1_eq i k) a]; fin_cases a <;> simp [ix3]
  have rf (c : Fin 2) (j : Fin 256) : View.readAt (Elt Ideal) arg6.view (Rect.unit (s := S1x1x8x256) (k0_off2 i k (BitVec.ofNat 32 c)) S1x1x1x256.size (k0_off2_inb i k c)).toLoadRect (harg6.unread X6) (ix4 0 0 0 j) = f (512 * k + (256 * c + j)) := by
    rw [readAt_at harg6 X6 _ _ _ _ (ix4 0 0 ⟨2 * k + c, by omega⟩ j)]
    · rw [hf]; congr 2; show 256 * (2 * k.1 + c.1) + j.1 = 512 * k + (256 * c + j); omega
    · intro a; rw [congrFun (k0_off2_eq i k c) a]; fin_cases a <;> simp [ix4]
  have rf0 : ∀ j : Fin 256, _ = ((f (512 * k + j) : ℝ) : EReal) := fun j => (rf 0 j).trans (by simp)
  have rf1 : ∀ j : Fin 256, _ = ((f (512 * k + (256 + j)) : ℝ) : EReal) := fun j => (rf 1 j).trans (by simp)
  intro r
  obtain ⟨h0, h1, h2, h3⟩ := h r
  have up {q : Vec Ideal S1x256x128 .bf16} {Q : Fin 128 → ℝ} {m l a} (hq : ∀ e, q (ix3 0 r e) = Q e) (h : St (512 * k) (lx Q K f) v r m l a) :=
    step512 h (by norm_num : 0 < 512) le_rfl _ (k0_pay2 _) (fun j => by rw [if_pos j.isLt]; exact sc_at _ hq rk rf0 rf1 j)
      (fun d j _ => by unfold k0_pay2; pointwise; exact rv d j)
  exact ⟨up (hq0 r) h0, up (hq1 r) h1, up (hq2 r) h2, up (hq3 r) h3⟩

/-- So after `k` trips they have seen `512 * k` keys. -/
theorem inv_loop
    (hq0 : ∀ (r : Fin 256) e, v0 (ix3 0 r e) = QQ r e) (hq1 : ∀ (r : Fin 256) e, v2 (ix3 0 r e) = QQ (256 + r) e)
    (hq2 : ∀ (r : Fin 256) e, v4 (ix3 0 r e) = QQ (512 + r) e) (hq3 : ∀ (r : Fin 256) e, v6 (ix3 0 r e) = QQ (768 + r) e)
    (hk : ∀ (p : Fin 2048) e, X4 (ix3 0 p e) = K p e) (hv : ∀ (p : Fin 2048) d, X5 (ix3 0 p d) = v d p)
    (hf : ∀ (a : Fin 8) (b : Fin 256), X6 (ix4 0 0 a b) = f (256 * a + b)) (s : Acc) (h : Inv 0 QQ K f v s) :
    ∀ k, k ≤ (k0_t1_loop i).trips → Inv (512 * k) QQ K f v (st_k0_t1 (F := Ideal) 𝒱 c bd i arg3 harg3 arg4 harg4 arg5 harg5 arg6 harg6 arg7 harg7 v0 v2 v4 v6 (harg4.unread X4) (harg5.unread X5) (harg6.unread X6) s k)
  | 0, _ => h
  | k + 1, hk' => by
      rw [st_k0_t1_succ (k := ⟨k, hk'⟩)]
      exact inv_step 𝒱 c bd i arg3 harg3 arg4 harg4 arg5 harg5 arg6 harg6 arg7 harg7 v0 v2 v4 v6 X4 X5 X6
        hq0 hq1 hq2 hq3 hk hv hf ⟨k, hk'⟩ _ (inv_loop hq0 hq1 hq2 hq3 hk hv hf s h k (Nat.le_of_lt hk'))

/-- The loop ends with the running values of all the keys before the block's first query. -/
theorem inv_end (n : ℕ) (hn : n = 1024 * (i 2).val)
    (hq0 : ∀ (r : Fin 256) e, v0 (ix3 0 r e) = QQ r e) (hq1 : ∀ (r : Fin 256) e, v2 (ix3 0 r e) = QQ (256 + r) e)
    (hq2 : ∀ (r : Fin 256) e, v4 (ix3 0 r e) = QQ (512 + r) e) (hq3 : ∀ (r : Fin 256) e, v6 (ix3 0 r e) = QQ (768 + r) e)
    (hk : ∀ (p : Fin 2048) e, X4 (ix3 0 p e) = K p e) (hv : ∀ (p : Fin 2048) d, X5 (ix3 0 p d) = v d p)
    (hf : ∀ (a : Fin 8) (b : Fin 256), X6 (ix4 0 0 a b) = f (256 * a + b)) (s : Acc) (h : Inv 0 QQ K f v s)
    (k : ℕ) (ht : k = (k0_t1_loop i).trips) : Inv n QQ K f v (st_k0_t1 (F := Ideal) 𝒱 c bd i arg3 harg3 arg4 harg4 arg5 harg5 arg6 harg6 arg7 harg7 v0 v2 v4 v6 (harg4.unread X4) (harg5.unread X5) (harg6.unread X6) s k) := by
  have e := inv_loop 𝒱 c bd i arg3 harg3 arg4 harg4 arg5 harg5 arg6 harg6 arg7 harg7 v0 v2 v4 v6 X4 X5 X6
    hq0 hq1 hq2 hq3 hk hv hf s h k ht.le
  have e2 : 512 * k = n := by rw [ht, trips1, hn]; omega
  rwa [e2] at e

/-- The loop over what is left of the earlier keys makes no trip: it keeps its initial values. -/
theorem inv_rest {n : ℕ} (w : BitVec 32) (Y4 Y5 Y6) (s : Acc) (h : Inv n QQ K f v s) (k : ℕ) (hk : k = 0) :
    Inv n QQ K f v (st_k0_t2 (F := Ideal) 𝒱 c bd i arg3 harg3 arg4 harg4 arg5 harg5 arg6 harg6 arg7 harg7 v0 v2 v4 v6 w Y4 Y5 Y6 s k) := by
  subst hk
  exact h

variable {𝒱 c bd i arg3 harg3 arg4 harg4 arg5 harg5 arg6 harg6 arg7 harg7 v0 v2 v4 v6 X4 X5 X6}

/-- Both loops, as the body runs them. -/
theorem inv_all {n : ℕ} (hn : n = 1024 * (i 2).val)
    (hq0 : ∀ (r : Fin 256) e, v0 (ix3 0 r e) = QQ (0 + r) e) (hq1 : ∀ (r : Fin 256) e, v2 (ix3 0 r e) = QQ (256 + r) e)
    (hq2 : ∀ (r : Fin 256) e, v4 (ix3 0 r e) = QQ (512 + r) e) (hq3 : ∀ (r : Fin 256) e, v6 (ix3 0 r e) = QQ (768 + r) e)
    (hk : ∀ (p : Fin 2048) e, X4 (ix3 0 p e) = K p e) (hv : ∀ (p : Fin 2048) d, X5 (ix3 0 p d) = v d p)
    (hf : ∀ (a : Fin 8) (b : Fin 256), X6 (ix4 0 0 a b) = f (256 * a + b)) {s : Acc} (h : Inv 0 QQ K f v s)
    {k k' : ℕ} (ht : k = (k0_t1_loop i).trips) (ht' : k' = 0) {w : BitVec 32} {Y4 Y5 Y6} :
    Inv n QQ K f v (st_k0_t2 (F := Ideal) 𝒱 c bd i arg3 harg3 arg4 harg4 arg5 harg5 arg6 harg6 arg7 harg7 v0 v2 v4 v6 w Y4 Y5 Y6
      (st_k0_t1 (F := Ideal) 𝒱 c bd i arg3 harg3 arg4 harg4 arg5 harg5 arg6 harg6 arg7 harg7 v0 v2 v4 v6 (harg4.unread X4) (harg5.unread X5) (harg6.unread X6) s k) k') :=
  inv_rest _ _ _ _ _ _ _ _ _ _ _ _ _ _ _ _ _ _ _ _ _ _ _
    (inv_end _ _ _ _ _ _ _ _ _ _ _ _ _ _ _ _ _ _ _ _ _ n hn (fun r e => (hq0 r e).trans (by rw [Nat.zero_add])) hq1 hq2 hq3 hk hv hf s h k ht) _ ht'

end Loop

/-- What the first chunk stores. -/
theorem piece0 {m l : FVec Ideal S256x1 .f32} {a : FVec Ideal S256x128 .f32} {n : ℕ} {r : Fin 256} {Q : Fin 128 → ℝ} {y : ℕ → ℝ}
    (h : St n (lx Q K f) v r m l a) {q : Vec Ideal S1x256x128 .bf16} {f0 : Vec Ideal S1x1x1x256 .f32} {kk vv : Vec Ideal S1x256x128 .bf16}
    (hq : ∀ e, q (ix3 0 r e) = Q e) (hk : ∀ (j : Fin 256) e, kk (ix3 0 j e) = K (n + j) e)
    (hv : ∀ d (j : Fin 256), vv (ix3 0 j d) = v d (n + j))
    (h0 : ∀ j : Fin 256, f0 (ix4 0 0 0 j) = f (n + j))
    (hx : ∀ p, lx Q K f p = y p * (1 / Real.log 2)) (d : Fin 128) :
    k0_pay103 (F := Ideal) a (k0_pay89 m (k0_pay76 (k0_pay57 q) (k0_pay72 f0) kk)) (k0_pay97 m l (k0_pay76 (k0_pay57 q) (k0_pay72 f0) kk)) (k0_pay101 m (k0_pay76 (k0_pay57 q) (k0_pay72 f0) kk) (k0_pay77 vv)) (ix3 0 r d)
      = Cert.Fox.soft (n + (r + 1)) y (v d) :=
  out256 h (by omega) (by omega) _ _ (diag0_at kk hq hk h0)
    (fun d j _ => by unfold k0_pay77; pointwise; exact hv d j) hx d

/-- What the second stores. -/
theorem piece1 {m l : FVec Ideal S256x1 .f32} {a : FVec Ideal S256x128 .f32} {n : ℕ} {r : Fin 256} {Q : Fin 128 → ℝ} {y : ℕ → ℝ}
    (h : St n (lx Q K f) v r m l a) {q : Vec Ideal S1x256x128 .bf16} {f0 f1 : Vec Ideal S1x1x1x256 .f32} {kk vv : Vec Ideal S1x512x128 .bf16}
    (hq : ∀ e, q (ix3 0 r e) = Q e) (hk : ∀ (j : Fin 512) e, kk (ix3 0 j e) = K (n + j) e)
    (hv : ∀ d (j : Fin 512), vv (ix3 0 j d) = v d (n + j))
    (h0 : ∀ j : Fin 256, f0 (ix4 0 0 0 j) = f (n + j))
    (h1 : ∀ j : Fin 256, f1 (ix4 0 0 0 j) = f (n + (256 + j)))
    (hx : ∀ p, lx Q K f p = y p * (1 / Real.log 2)) (d : Fin 128) :
    k0_pay104 (F := Ideal) a (k0_pay80 vv) (k0_pay90 m (k0_pay79 (k0_pay78 (k0_pay58 q) (k0_pay72 f0) f1 kk) (iota .tc S256x512 32 [0] iota_S256x512_d0_w32) 256#32)) (k0_pay98 m l (k0_pay79 (k0_pay78 (k0_pay58 q) (k0_pay72 f0) f1 kk) (iota .tc S256x512 32 [0] iota_S256x512_d0_w32) 256#32)) (k0_pay102 m (k0_pay79 (k0_pay78 (k0_pay58 q) (k0_pay72 f0) f1 kk) (iota .tc S256x512 32 [0] iota_S256x512_d0_w32) 256#32)) (ix3 0 r d)
      = Cert.Fox.soft (n + (256 + r + 1)) y (v d) :=
  out512 h (by omega) (by omega) _ _ (diag1_at kk hq hk h0 h1)
    (fun d j _ => by unfold k0_pay80; pointwise; exact hv d j) hx d

/-- What the third stores. -/
theorem piece2 {m l : FVec Ideal S256x1 .f32} {a : FVec Ideal S256x128 .f32} {n : ℕ} {r : Fin 256} {Q : Fin 128 → ℝ} {y : ℕ → ℝ}
    (h : St n (lx Q K f) v r m l a) {q : Vec Ideal S1x256x128 .bf16} {f0 f1 f2 : Vec Ideal S1x1x1x256 .f32} {kk vv : Vec Ideal S1x768x128 .bf16}
    (hq : ∀ e, q (ix3 0 r e) = Q e) (hk : ∀ (j : Fin 768) e, kk (ix3 0 j e) = K (n + j) e)
    (hv : ∀ d (j : Fin 768), vv (ix3 0 j d) = v d (n + j))
    (h0 : ∀ j : Fin 256, f0 (ix4 0 0 0 j) = f (n + j))
    (h1 : ∀ j : Fin 256, f1 (ix4 0 0 0 j) = f (n + (256 + j)))
    (h2 : ∀ j : Fin 256, f2 (ix4 0 0 0 j) = f (n + (512 + j)))
    (hx : ∀ p, lx Q K f p = y p * (1 / Real.log 2)) (d : Fin 128) :
    k0_pay105 (F := Ideal) a (k0_pay82 vv) (k0_pay91 m (k0_pay81 (k0_pay59 q) (k0_pay72 f0) (k0_pay73 f1) (k0_pay74 f2) kk)) (k0_pay95 m (k0_pay81 (k0_pay59 q) (k0_pay72 f0) (k0_pay73 f1) (k0_pay74 f2) kk)) (k0_pay99 m l (k0_pay81 (k0_pay59 q) (k0_pay72 f0) (k0_pay73 f1) (k0_pay74 f2) kk)) (ix3 0 r d)
      = Cert.Fox.soft (n + (512 + r + 1)) y (v d) :=
  out768 h (by omega) (by omega) _ _ (diag2_at kk hq hk h0 h1 h2)
    (fun d j _ => by unfold k0_pay82; pointwise; exact hv d j) hx d

/-- What the fourth stores. -/
theorem piece3 {m l : FVec Ideal S256x1 .f32} {a : FVec Ideal S256x128 .f32} {n : ℕ} {r : Fin 256} {Q : Fin 128 → ℝ} {y : ℕ → ℝ}
    (h : St n (lx Q K f) v r m l a) {q : Vec Ideal S1x256x128 .bf16} {f0 f1 f2 f3 : Vec Ideal S1x1x1x256 .f32} {kk vv : Vec Ideal S1x1024x128 .bf16}
    (hq : ∀ e, q (ix3 0 r e) = Q e) (hk : ∀ (j : Fin 1024) e, kk (ix3 0 j e) = K (n + j) e)
    (hv : ∀ d (j : Fin 1024), vv (ix3 0 j d) = v d (n + j))
    (h0 : ∀ j : Fin 256, f0 (ix4 0 0 0 j) = f (n + j))
    (h1 : ∀ j : Fin 256, f1 (ix4 0 0 0 j) = f (n + (256 + j)))
    (h2 : ∀ j : Fin 256, f2 (ix4 0 0 0 j) = f (n + (512 + j)))
    (h3 : ∀ j : Fin 256, f3 (ix4 0 0 0 j) = f (n + (768 + j)))
    (hx : ∀ p, lx Q K f p = y p * (1 / Real.log 2)) (d : Fin 128) :
    k0_pay106 (F := Ideal) a (k0_pay84 vv) (k0_pay92 m (k0_pay83 (k0_pay60 q) (k0_pay72 f0) (k0_pay73 f1) (k0_pay74 f2) (k0_pay75 f3) kk)) (k0_pay96 m (k0_pay83 (k0_pay60 q) (k0_pay72 f0) (k0_pay73 f1) (k0_pay74 f2) (k0_pay75 f3) kk)) (k0_pay100 m l (k0_pay83 (k0_pay60 q) (k0_pay72 f0) (k0_pay73 f1) (k0_pay74 f2) (k0_pay75 f3) kk)) (ix3 0 r d)
      = Cert.Fox.soft (n + (768 + r + 1)) y (v d) :=
  out1024 h (by omega) (by omega) _ _ (diag3_at kk hq hk h0 h1 h2 h3)
    (fun d j _ => by unfold k0_pay84; pointwise; exact hv d j) hx d

end Cert.KernelIdeal.Fox
end
-- ==== Proof.KernelValue.lean ====
module

public import proofs.«01_k».proof.Proof.Loop
public import Idealize.ShloMosaic.Lib.Pipeline.ValueKit
public import Idealize.ShloMosaic.Lib.Pointwise

@[expose] public section

set_option maxRecDepth 16384

noncomputable section

namespace Cert.KernelIdeal.Fox

open Cert.KernelIdeal Cert.KernelIdeal.Gen Idealize.ShloMosaic Idealize.ShloMosaic.TcCoe Idealize.SL.Sem
open Idealize.ShloMosaic.Pipeline (Dat)
open Cert.Fox (width_at)
variable (m : (ℓ : Loc nD τ sig) → Buf (Elt Ideal) ℓ)

/-- Which block of each array a grid point works on. -/
theorem idx : ∀ t : Fin cfg0.N, win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 1).val, 0, 0]
    ∧ win0_4.index t = ![(grid0.coords t 0).val, (grid0.coords t 2).val, (grid0.coords t 1).val] :=
  (by decide +kernel : ∀ t : Fin grid0.N, _)

/-- The program's arguments by their coordinates: queries, keys, values and cumulative log-forgets. -/
def argQ (c : Dev nD) (b : Fin 16) (i : Fin 2048) (j : Fin 512) : EReal := m ((c : Thread nD τ).loc main_arg0) (ix3 b i j)
/-- The keys. -/
def argK (c : Dev nD) (b : Fin 16) (i : Fin 2048) (j : Fin 512) : EReal := m ((c : Thread nD τ).loc main_arg1) (ix3 b i j)
/-- The values. -/
def argV (c : Dev nD) (b : Fin 16) (i : Fin 2048) (j : Fin 512) : EReal := m ((c : Thread nD τ).loc main_arg2) (ix3 b i j)
/-- The cumulative log-forgets. -/
def argF (c : Dev nD) (b : Fin 16) (h : Fin 4) (i : Fin 2048) : EReal := m ((c : Thread nD τ).loc main_arg3) (ix3 b h i)

/-- The word of two. -/
theorem two_at : Ideal.ofBits FTy.f32 1073741824#32 = ((2 : ℝ) : EReal) := by
  simp [Ideal.ofBits, Ideal.ieee, -EReal.coe_mul]; norm_num

/-- The kernel's scale of the log-forgets: one over the logarithm of two. -/
theorem log2e_at : Ideal.div 1 (Ideal.log (Ideal.ofBits FTy.f32 1073741824#32)) = ((1 / Real.log 2 : ℝ) : EReal) := by
  rw [two_at, Ideal.log_coe, if_neg (by norm_num), Ideal.div_coe (Real.log_pos (by norm_num)).ne', one_mul]

/-- The kernel's scale of the queries: the same over the square root of 128. -/
theorem scale_at : Ideal.div (Ideal.div 1 (Ideal.log (Ideal.ofBits FTy.f32 1073741824#32))) (Ideal.sqrt (Ideal.ofBits FTy.f32 1124073472#32))
    = ((1 / Real.log 2 * (1 / √128) : ℝ) : EReal) := by
  rw [log2e_at, width_at, Ideal.sqrt_coe, if_neg (by norm_num), Ideal.div_coe (by positivity), EReal.coe_mul]

section Block
variable (c : Dev nD) (t : Fin cfg0.N) (b : Fin 16) (h : Fin 4) (hb : b.val = (grid0.coords t 0).val) (hh : h.val = (grid0.coords t 1).val)
include hb hh

/-- Where an entry of the query block lies in the queries. -/
theorem emb_q (R : Fin 1024) (e : Fin 128) (i : Fin 2048) (hi : i.val = 1024 * (grid0.coords t 2).val + R) :
    ((cfg0.win 0).blk t).view.emb (ix3 0 R e) = ix3 b i (Cert.Fox.col h e) := by
  blk_ext [idx t, Cert.Fox.col]

/-- Where an entry of the output block lies in the result. -/
theorem emb_out (R : Fin 1024) (e : Fin 128) (i : Fin 2048) (hi : i.val = 1024 * (grid0.coords t 2).val + R) :
    ((cfg0.win 4).blk t).view.emb (ix3 0 R e) = ix3 b i (Cert.Fox.col h e) := by
  blk_ext [idx t, Cert.Fox.col]

/-- The key block is one head's columns of all keys. -/
theorem emb_k (p : Fin 2048) (e : Fin 128) : ((cfg0.win 1).blk t).view.emb (ix3 0 p e) = ix3 b p (Cert.Fox.col h e) := by
  blk_ext [idx t, Cert.Fox.col]

/-- The value block, likewise. -/
theorem emb_v (p : Fin 2048) (e : Fin 128) : ((cfg0.win 2).blk t).view.emb (ix3 0 p e) = ix3 b p (Cert.Fox.col h e) := by
  blk_ext [idx t, Cert.Fox.col]

/-- The block of log-forgets, 256 positions to a row. -/
theorem emb_f (p : Fin 8) (e : Fin 256) : ((cfg0.win 3).blk t).view.emb (ix4 0 0 p e) = ix4 b h p e := by
  blk_ext [idx t]

/-- A query, scaled. -/
theorem q_at (R : Fin 1024) (e : Fin 128) (i : Fin 2048) (hi : i.val = 1024 * (grid0.coords t 2).val + R) :
    iblk m c 0 t (ix3 0 R e) = argQ m c b i (Cert.Fox.col h e) * ((1 / Real.log 2 * (1 / √128) : ℝ) : EReal) := by
  unfold iblk
  show V m c main_v6 (((cfg0.win 0).blk t).view.emb (ix3 0 R e)) = _
  unfold argQ
  rw [emb_q t b h hb hh R e i hi]
  entry_read
  pointwise
  rw [scale_at]

/-- A key. -/
theorem k_at (p : Fin 2048) (e : Fin 128) :
    iblk m c 1 t (ix3 0 p e) = argK m c b p (Cert.Fox.col h e) := by
  unfold iblk
  show V m c main_v7 (((cfg0.win 1).blk t).view.emb (ix3 0 p e)) = _
  unfold argK
  rw [emb_k t b h hb hh p e]
  entry_read
  pointwise

/-- A value. -/
theorem v_at (p : Fin 2048) (e : Fin 128) :
    iblk m c 2 t (ix3 0 p e) = argV m c b p (Cert.Fox.col h e) := by
  unfold iblk
  show V m c main_v8 (((cfg0.win 2).blk t).view.emb (ix3 0 p e)) = _
  unfold argV
  rw [emb_v t b h hb hh p e]
  entry_read
  pointwise

/-- A log-forget, scaled. -/
theorem f_at (p : Fin 8) (e : Fin 256) :
    iblk m c 3 t (ix4 0 0 p e) = argF m c b h (Cert.Fox.at' (256 * p + e)) * ((1 / Real.log 2 : ℝ) : EReal) := by
  unfold iblk
  show V m c main_v11 (((cfg0.win 3).blk t).view.emb (ix4 0 0 p e)) = _
  unfold argF
  rw [emb_f t b h hb hh p e]
  entry_read
  pointwise
  rw [log2e_at]
  congr 3
  exact Fin.ext (by show p.val * 256 + e.val = (256 * p.val + e.val) % 2048; omega)

end Block

/-- What the program leaves in its result: the forgetting attention of its arguments. -/
def out (c : Dev nD) (j : S16x2048x512.Idx) : EReal :=
  Cert.Fox.attn (argQ m c) (argK m c) (argV m c) (argF m c) (j 0) (j 1) (Cert.Fox.head (j 2)) (Cert.Fox.lane (j 2))

/-- The block's queries scaled for base two, its keys, log-forgets and values, as the running softmax reads them. -/
def bQ (c : Dev nD) (b : Fin 16) (h : Fin 4) (n R : ℕ) (e : Fin 128) : ℝ :=
  (argQ m c b (Cert.Fox.at' (n + R)) (Cert.Fox.col h e)).toReal * (1 / Real.log 2 * (1 / √128))
/-- The keys. -/
def bK (c : Dev nD) (b : Fin 16) (h : Fin 4) (p : ℕ) (e : Fin 128) : ℝ := (argK m c b (Cert.Fox.at' p) (Cert.Fox.col h e)).toReal
/-- The scaled log-forgets. -/
def bF (c : Dev nD) (b : Fin 16) (h : Fin 4) (p : ℕ) : ℝ := (argF m c b h (Cert.Fox.at' p)).toReal * (1 / Real.log 2)
/-- The values. -/
def bV (c : Dev nD) (b : Fin 16) (h : Fin 4) (d : Fin 128) (p : ℕ) : EReal := argV m c b (Cert.Fox.at' p) (Cert.Fox.col h d)

/-- The kernel's base-2 logit is the logit over log 2. -/
theorem lx_logit (c : Dev nD) (b : Fin 16) (h : Fin 4) (n R : ℕ) (p : ℕ) :
    lx (bQ m c b h n R) (bK m c b h) (bF m c b h) p
      = Cert.Fox.logit (argQ m c) (argK m c) (argF m c) b (Cert.Fox.at' (n + R)) h p * (1 / Real.log 2) := by
  unfold lx bQ bK bF Cert.Fox.logit
  rw [sub_mul]
  congr 1
  rw [Finset.sum_div, Finset.sum_mul]
  exact Finset.sum_congr rfl fun e _ => by ring

set_option maxHeartbeats 1000000 in
/-- The program's result, for real queries, keys and log-forgets. -/
theorem final (c : Dev nD) (hq : ∀ b i j, argQ m c b i j = ((argQ m c b i j).toReal : ℝ)) (hk : ∀ b i j, argK m c b i j = ((argK m c b i j).toReal : ℝ))
    (hf : ∀ b i j, argF m c b i j = ((argF m c b i j).toReal : ℝ)) : (dats m 0 c).arrAt 4 (cfgs 0).N = out m c := by
  refine (dats m 0 c).arrAt_eq_of_covers 4 _ (by decide +kernel) fun t _ y => ?_
  have hi2 : (grid0.coords t 2).val < 2 := (grid0.coords t 2).isLt
  obtain ⟨b, hb⟩ : ∃ b : Fin 16, b.val = (grid0.coords t 0).val := ⟨⟨_, (grid0.coords t 0).isLt⟩, rfl⟩
  obtain ⟨h, hh⟩ : ∃ h : Fin 4, h.val = (grid0.coords t 1).val := ⟨⟨_, (grid0.coords t 1).isLt⟩, rfl⟩
  obtain ⟨N, hN⟩ : ∃ N, N = 1024 * (grid0.coords t 2).val := ⟨_, rfl⟩
  have hG : ∀ (R : ℕ) (hR : R < 1024) (d : Fin 128),
      out m c (((cfg0.win 4).blk t).view.emb (ix3 0 ⟨R, hR⟩ d)) = Cert.Fox.soft (N + R + 1) (Cert.Fox.logit (argQ m c) (argK m c) (argF m c) b (Cert.Fox.at' (N + R)) h) (bV m c b h d) := by
    intro R hR d
    have hv : (Cert.Fox.at' (N + R)).val = N + R := Nat.mod_eq_of_lt (by omega)
    rw [emb_out t b h hb hh ⟨R, hR⟩ d (Cert.Fox.at' (N + R)) (by rw [hv, hN])]
    show Cert.Fox.attn (argQ m c) (argK m c) (argV m c) (argF m c) b (Cert.Fox.at' (N + R)) (Cert.Fox.head (Cert.Fox.col h d)) (Cert.Fox.lane (Cert.Fox.col h d)) = _
    rw [Cert.Fox.head_col, Cert.Fox.lane_col]
    unfold Cert.Fox.attn
    rw [hv]
    rfl
  blk_simp
  rw [after0_4]
  unfold outsAt0
  frame_out
  have lq : ∀ (o : ℕ) (ho : o + 256 ≤ 1024) inb (r : Fin 256) (e : Fin 128),
      View.ld (iblk m c 0 t) (Rect.unit (s := S1x1024x128) ![0, o, 0] ![1, 256, 128] inb) (ix3 0 r e) = ((bQ m c b h N (o + r) e : ℝ) : EReal) := by
    intro o ho inb r e
    refine (View.ld_unit_apply_of (iblk m c 0 t) ![0, o, 0] ![1, 256, 128] inb (ix3 0 r e) (ix3 0 ⟨o + r.val, by omega⟩ e) (by intro a; fin_cases a <;> simp [ix3])).trans ?_
    rw [q_at m c t b h hb hh ⟨o + r.val, by omega⟩ e (Cert.Fox.at' (N + (o + r))) ((Nat.mod_eq_of_lt (by omega)).trans (by rw [hN])), hq, ← EReal.coe_mul]
    rfl
  have lk : ∀ (p : Fin 2048) (e : Fin 128), iblk m c 1 t (ix3 0 p e) = ((bK m c b h p e : ℝ) : EReal) := by
    intro p e
    rw [k_at m c t b h hb hh, hk, bK, Cert.Fox.at'_val]
  have lv : ∀ (p : Fin 2048) (e : Fin 128), iblk m c 2 t (ix3 0 p e) = bV m c b h e p := by
    intro p e
    rw [v_at m c t b h hb hh, bV, Cert.Fox.at'_val]
  have lf : ∀ (a : Fin 8) (e : Fin 256), iblk m c 3 t (ix4 0 0 a e) = ((bF m c b h (256 * a + e) : ℝ) : EReal) := by
    intro a e
    rw [f_at m c t b h hb hh, hf, bF, EReal.coe_mul]
  have lk' : ∀ (W : ℕ) (hW : W ≤ 1024) (off) (ho : off = ![0, N, 0]) inb (j : Fin W) (e : Fin 128),
      View.ld (iblk m c 1 t) (Rect.unit (s := S1x2048x128) off ![1, W, 128] inb) (ix3 0 j e) = ((bK m c b h (N + j) e : ℝ) : EReal) := by
    intro W hW off ho inb j e
    subst ho
    refine (View.ld_unit_apply_of (iblk m c 1 t) ![0, N, 0] ![1, W, 128] inb (ix3 0 j e) (ix3 0 ⟨N + j.val, by omega⟩ e) (by intro a; fin_cases a <;> simp [ix3])).trans ?_
    exact lk ⟨N + j.val, by omega⟩ e
  have lv' : ∀ (W : ℕ) (hW : W ≤ 1024) (off) (ho : off = ![0, N, 0]) inb (e : Fin 128) (j : Fin W),
      View.ld (iblk m c 2 t) (Rect.unit (s := S1x2048x128) off ![1, W, 128] inb) (ix3 0 j e) = bV m c b h e (N + j) := by
    intro W hW off ho inb e j
    subst ho
    refine (View.ld_unit_apply_of (iblk m c 2 t) ![0, N, 0] ![1, W, 128] inb (ix3 0 j e) (ix3 0 ⟨N + j.val, by omega⟩ e) (by intro a; fin_cases a <;> simp [ix3])).trans ?_
    exact lv ⟨N + j.val, by omega⟩ e
  have lf' : ∀ (a : Fin 4) inb (j : Fin 256),
      View.ld (iblk m c 3 t) (Rect.unit (s := S1x1x8x256) (k0_off5 (grid0.coords t) (BitVec.ofNat 32 a)) ![1, 1, 1, 256] inb) (ix4 0 0 0 j)
        = ((bF m c b h (N + (256 * a + j)) : ℝ) : EReal) := by
    intro a inb j
    refine (View.ld_unit_apply_of (iblk m c 3 t) (k0_off5 (grid0.coords t) (BitVec.ofNat 32 a)) ![1, 1, 1, 256] inb (ix4 0 0 0 j)
      (ix4 0 0 ⟨4 * (grid0.coords t 2).val + a.val, by omega⟩ j) (by intro x; rw [congrFun (k0_off5_eq (grid0.coords t) a) x]; fin_cases x <;> simp [ix4])).trans ?_
    rw [lf]
    congr 2
    show 256 * (4 * (grid0.coords t 2).val + a.val) + j.val = N + (256 * a.val + j.val)
    omega
  generalize hs : st_k0_t2 (F := Ideal) _ _ _ _ _ _ _ _ _ _ _ _ _ _ _ _ _ _ _ _ _ _ _ _ = S
  have hI : Inv N (bQ m c b h N) (bK m c b h) (bF m c b h) (bV m c b h) S := by
    rw [← hs]
    exact inv_all hN (lq 0 (by norm_num) _) (lq 256 (by norm_num) _) (lq 512 (by norm_num) _) (lq 768 (by norm_num) _) lk lv lf inv_start rfl (trips2 (grid0.coords t))
  clear hs
  canon_tiles x hx
  all_goals
    obtain ⟨z, r, d, rfl⟩ : ∃ z r d, x = ix3 z r d := ⟨x 0, x 1, x 2, by ext a; fin_cases a <;> rfl⟩
    obtain rfl : z = 0 := Subsingleton.elim _ _
    obtain ⟨y0, y1, y2, rfl⟩ : ∃ y0 y1 y2, y = ix3 y0 y1 y2 := ⟨y 0, y 1, y 2, by ext a; fin_cases a <;> rfl⟩
    obtain rfl : y0 = 0 := Subsingleton.elim _ _
    obtain rfl : d = y2 := (Fin.ext hx2).symm
  · have hR : 768 + r.val < 1024 := by omega
    obtain rfl : y1 = ⟨768 + r, hR⟩ := Fin.ext hx1
    refine (piece3 (Q := bQ m c b h N (768 + r)) (n := N) (K := bK m c b h) (f := bF m c b h) (v := bV m c b h)
      (y := Cert.Fox.logit (argQ m c) (argK m c) (argF m c) b (Cert.Fox.at' (N + (768 + r))) h) ?st3 (lq 768 (by norm_num) _ r)
      (lk' 1024 (by norm_num) _ ((k0_off9_eq _).trans (by rw [hN])) _) (lv' 1024 (by norm_num) _ ((k0_off9_eq _).trans (by rw [hN])) _)
      (fun j => (lf' 0 _ j).trans (by simp)) (fun j => lf' 1 _ j) (fun j => lf' 2 _ j) (fun j => lf' 3 _ j) (lx_logit m c b h _ _) d).trans ?val3
    case val3 => exact (congrArg (fun n => Cert.Fox.soft n _ _) (by omega)).trans (hG (768 + r) hR d).symm
    case st3 => exact (hI r).2.2.2
  · have hR : 512 + r.val < 1024 := by omega
    obtain rfl : y1 = ⟨512 + r, hR⟩ := Fin.ext hx1
    refine (piece2 (Q := bQ m c b h N (512 + r)) (n := N) (K := bK m c b h) (f := bF m c b h) (v := bV m c b h)
      (y := Cert.Fox.logit (argQ m c) (argK m c) (argF m c) b (Cert.Fox.at' (N + (512 + r))) h) ?st2 (lq 512 (by norm_num) _ r)
      (lk' 768 (by norm_num) _ ((k0_off8_eq _).trans (by rw [hN])) _) (lv' 768 (by norm_num) _ ((k0_off8_eq _).trans (by rw [hN])) _)
      (fun j => (lf' 0 _ j).trans (by simp)) (fun j => lf' 1 _ j) (fun j => lf' 2 _ j) (lx_logit m c b h _ _) d).trans ?val2
    case val2 => exact (congrArg (fun n => Cert.Fox.soft n _ _) (by omega)).trans (hG (512 + r) hR d).symm
    case st2 => exact (hI r).2.2.1
  · have hR : 256 + r.val < 1024 := by omega
    obtain rfl : y1 = ⟨256 + r, hR⟩ := Fin.ext hx1
    refine (piece1 (Q := bQ m c b h N (256 + r)) (n := N) (K := bK m c b h) (f := bF m c b h) (v := bV m c b h)
      (y := Cert.Fox.logit (argQ m c) (argK m c) (argF m c) b (Cert.Fox.at' (N + (256 + r))) h) ?st1 (lq 256 (by norm_num) _ r)
      (lk' 512 (by norm_num) _ ((k0_off7_eq _).trans (by rw [hN])) _) (lv' 512 (by norm_num) _ ((k0_off7_eq _).trans (by rw [hN])) _)
      (fun j => (lf' 0 _ j).trans (by simp)) (fun j => lf' 1 _ j) (lx_logit m c b h _ _) d).trans ?val1
    case val1 => exact (congrArg (fun n => Cert.Fox.soft n _ _) (by omega)).trans (hG (256 + r) hR d).symm
    case st1 => exact (hI r).2.1
  · have hR : 0 + r.val < 1024 := by omega
    obtain rfl : y1 = ⟨0 + r, hR⟩ := Fin.ext (hx1.trans (Nat.zero_add _).symm)
    refine (piece0 (Q := bQ m c b h N (0 + r)) (n := N) (K := bK m c b h) (f := bF m c b h) (v := bV m c b h)
      (y := Cert.Fox.logit (argQ m c) (argK m c) (argF m c) b (Cert.Fox.at' (N + (0 + r))) h) ?st0 (lq 0 (by norm_num) _ r)
      (lk' 256 (by norm_num) _ ((k0_off6_eq _).trans (by rw [hN])) _) (lv' 256 (by norm_num) _ ((k0_off6_eq _).trans (by rw [hN])) _)
      (fun j => (lf' 0 _ j).trans (by simp)) (lx_logit m c b h _ _) d).trans ?val0
    case val0 => exact (congrArg (fun n => Cert.Fox.soft n _ _) (by omega)).trans (hG (0 + r) hR d).symm
    case st0 =>
      rw [show bQ m c b h N (0 + r) = bQ m c b h N r by rw [Nat.zero_add]]
      exact (hI r).1

end Cert.KernelIdeal.Fox
end
-- ==== Proof.RefValue.lean ====
module

public import proofs.«01_k».proof.Proof.RowMath
public import proofs.«01_k».proof.Proof.Gen.ReferenceIdeal.Read
public import Idealize.ShloMosaic.Lib.Pointwise

@[expose] public section
set_option maxRecDepth 16384
noncomputable section

namespace Cert.ReferenceIdeal.Fox

open Cert.ReferenceIdeal Cert.ReferenceIdeal.Gen Cert.ReferenceIdeal.Read Idealize.ShloMosaic
open Cert.Fox (neg_inf width_at)

/-- The maximum along the last of four axes, as a fold over that axis. -/
theorem max_last {n0 n1 n2 n3 : ℕ} {u : Shape} (h : (⟨4, ![n0, n1, n2, n3]⟩ : Shape).ReducesTo [3] ⟨3, ![n0, n1, n2]⟩)
    (y : (⟨4, ![n0, n1, n2, n3]⟩ : Shape).Idx → EReal) (init : u.Idx → EReal) (hu : 0 < u.numel) (a : Fin n0) (b : Fin n1) (c : Fin n2) :
    Host.reduce (FloatOps.maximumf (F := Ideal) (φ := .f32)) y init h hu (ix3 a b c)
      = Finset.univ.fold max (init (Shape.Idx.first hu)) (fun p : Fin n3 => y (ix4 a b c p)) :=
  (Host.reduce_eq_fold _ _ _ h hu _).trans (Shape.ReducesTo.fold_fiber_r4_a3 h _ max _ _)

/-- Comparing two positions below 2048 as words compares them as numbers. -/
theorem le_sel (p i : Fin 2048) (a b : EReal) :
    Scalar.select (IntOp.cmpi CmpIPredicate.sle (BitVec.ofNat 32 p) (BitVec.ofNat 32 i)) a b = if p.val < i.val + 1 then a else b := by
  have e : (BitVec.ofNat 32 p).sle (BitVec.ofNat 32 i) = decide (p.val < i.val + 1) := by
    rw [BitVec.sle_eq_decide]
    congr 1
    rw [BitVec.toInt_eq_toNat_of_lt, BitVec.toInt_eq_toNat_of_lt] <;> simp <;> omega
  simp only [IntOp.cmpi, Scalar.select, e]
  by_cases h : p.val < i.val + 1 <;> simp [h]

variable (x0 x1 x2 : (⟨S16x2048x512, .f32⟩ : BufTy).Contents (Elt Ideal)) (x3 : (⟨S16x4x2048, .f32⟩ : BufTy).Contents (Elt Ideal))

/-- An array's entries by their coordinates. -/
def at3 {a b c : ℕ} (x : (⟨3, ![a, b, c]⟩ : Shape).Idx → EReal) (i : Fin a) (j : Fin b) (k : Fin c) : EReal := x (ix3 i j k)

/-- The largest logit, as a fold over the keys. -/
theorem max_at (b : Fin 16) (h : Fin 4) (i : Fin 2048) : val_main_v20 (F := Ideal) x0 x1 x3 (ix3 b h i)
    = Finset.univ.fold max (val_main_cst_1 (F := Ideal) (Shape.Idx.first h_S_)) (fun p : Fin 2048 => (val_main_v19 (F := Ideal) x0 x1 x3 (ix4 b h i p) : EReal)) := by
  unfold val_main_v20
  generalize val_main_v19 (F := Ideal) x0 x1 x3 = y
  generalize val_main_cst_1 (F := Ideal) = z
  exact max_last _ _ _ _ _ _ _

/-- Taking the maximum with minus infinity once more changes nothing. -/
theorem max_bot_fold {N : ℕ} (s : Fin N → EReal) (e : EReal) (he : e = Finset.univ.fold max (Ideal.ofBits FTy.f32 4286578688#32) s) :
    max (Ideal.ofBits FTy.f32 4286578688#32) e = Finset.univ.fold max ⊥ s := by
  rw [he, neg_inf]
  exact max_eq_right bot_le

/-- The fold starts from minus infinity. -/
theorem start_at : val_main_cst_1 (F := Ideal) (Shape.Idx.first h_S_) = Ideal.ofBits FTy.f32 4286578688#32 := rfl

/-- The array of minus infinities the softmax compares with. -/
theorem least_at (i : S16x4x2048.Idx) : val_main_v21 (F := Ideal) i = Ideal.ofBits FTy.f32 4286578688#32 :=
  (val_main_v21_apply i).trans rfl

/-- What the softmax subtracts: the largest logit. -/
theorem shift_at (b : Fin 16) (h : Fin 4) (i : Fin 2048) : val_main_v22 (F := Ideal) x0 x1 x3 (ix3 b h i)
    = Finset.univ.fold max ⊥ (fun p : Fin 2048 => (val_main_v19 (F := Ideal) x0 x1 x3 (ix4 b h i p) : EReal)) := by
  have e := max_at x0 x1 x3 b h i
  rw [start_at] at e
  have e2 := val_main_v22_apply (F := Ideal) x0 x1 x3 (ix3 b h i)
  rw [least_at] at e2
  generalize val_main_v22 (F := Ideal) x0 x1 x3 (ix3 b h i) = A at e2 ⊢
  generalize val_main_v20 (F := Ideal) x0 x1 x3 (ix3 b h i) = B at e e2
  have e3 := max_bot_fold _ _ e
  exact Eq.trans e2 e3

/-- The masked logits. -/
theorem score_at (hq : ∀ b i j, at3 x0 b i j = ((at3 x0 b i j).toReal : ℝ)) (hk : ∀ b i j, at3 x1 b i j = ((at3 x1 b i j).toReal : ℝ))
    (hf : ∀ b i j, at3 x3 b i j = ((at3 x3 b i j).toReal : ℝ)) (b : Fin 16) (h : Fin 4) (i p : Fin 2048) :
    val_main_v19 (F := Ideal) x0 x1 x3 (ix4 b h i p)
      = if p.val < i.val + 1 then ((Cert.Fox.logit (at3 x0) (at3 x1) (at3 x3) b i h p + (at3 x3 b h i).toReal : ℝ) : EReal) else ⊥ := by
  unfold val_main_v19 val_main_call0_v1 val_main_v13 val_main_call0_v2 val_main_v18 val_main_v16 val_main_v14 val_main_v17 val_main_v15 val_main_v3 val_main_v10 val_main_v12 val_main_v7 val_main_v6 val_main_v5 val_main_cst val_main_v9 val_main_v8 val_main_v11 val_main_call0_v0 val_main_cst_0 val_main_v4 val_main_v0 val_main_v1
  pointwise
  refine (le_sel p i _ _).trans ?_
  split
  · have e : ∀ x : Fin 128, x0 (ix3 b i ⟨h.val * 128 + x.val, by omega⟩) * x1 (ix3 b p ⟨h.val * 128 + x.val, by omega⟩)
        = (((at3 x0 b i (Cert.Fox.col h x)).toReal * (at3 x1 b p (Cert.Fox.col h x)).toReal : ℝ) : EReal) := fun x => by
      rw [EReal.coe_mul, ← hq, ← hk, show Cert.Fox.col h x = ⟨h.val * 128 + x.val, by omega⟩ from Fin.ext (congrArg (fun n => n + x.val) (Nat.mul_comm 128 h.val))]
      rfl
    have eq : x3 (ix3 b h i) = ((at3 x3 b h i).toReal : EReal) := hf b h i
    have ep : x3 (ix3 b h p) = ((at3 x3 b h p).toReal : EReal) := hf b h p
    rw [eq, ep, width_at, Ideal.sqrt_coe, if_neg (by norm_num), Ideal.div_coe (by positivity),
      Finset.sum_congr rfl fun x _ => e x, ← Cert.Fox.coe_sum, ← EReal.coe_mul, ← EReal.coe_add, ← EReal.coe_sub]
    congr 1
    unfold Cert.Fox.logit
    rw [Cert.Fox.at'_val]
    ring
  · exact neg_inf

/-- A key's weight: its exponential over the sum of the row's. -/
theorem weight_at (b : Fin 16) (h : Fin 4) (i p : Fin 2048) : val_main_v30 (F := Ideal) x0 x1 x3 (ix4 b h i p)
    = Ideal.div (Ideal.exp (val_main_v19 (F := Ideal) x0 x1 x3 (ix4 b h i p) - val_main_v22 (F := Ideal) x0 x1 x3 (ix3 b h i)))
        (∑ k : Fin 2048, Ideal.exp (val_main_v19 (F := Ideal) x0 x1 x3 (ix4 b h i k) - val_main_v22 (F := Ideal) x0 x1 x3 (ix3 b h i))) := by
  unfold val_main_v30 val_main_v29 val_main_v28 val_main_v27 val_main_cst_3 val_main_v26 val_main_v25 val_main_v24 val_main_v23
  generalize val_main_v19 (F := Ideal) x0 x1 x3 = y
  generalize val_main_v22 (F := Ideal) x0 x1 x3 = z
  pointwise

/-- The result is the sum over the keys of their values times their weights. -/
theorem out_at (b : Fin 16) (i : Fin 2048) (j : Fin 512) : val_main_v34 (F := Ideal) x0 x1 x2 x3 (ix3 b i j)
    = ∑ p : Fin 2048, (val_main_v30 (F := Ideal) x0 x1 x3 (ix4 b (Cert.Fox.head j) i p) : EReal) * at3 x2 b p j := by
  unfold val_main_v34 val_main_v33 val_main_v32 val_main_v31 val_main_v2
  generalize val_main_v30 (F := Ideal) x0 x1 x3 = y
  pointwise
  exact Finset.sum_congr rfl fun p _ => mul_comm _ _

/-- The reference computes the forgetting attention. -/
theorem ref_at (hq : ∀ b i j, at3 x0 b i j = ((at3 x0 b i j).toReal : ℝ)) (hk : ∀ b i j, at3 x1 b i j = ((at3 x1 b i j).toReal : ℝ))
    (hf : ∀ b i j, at3 x3 b i j = ((at3 x3 b i j).toReal : ℝ)) (b : Fin 16) (i : Fin 2048) (j : Fin 512) :
    val_main_v34 (F := Ideal) x0 x1 x2 x3 (ix3 b i j)
      = Cert.Fox.attn (at3 x0) (at3 x1) (at3 x2) (at3 x3) b i (Cert.Fox.head j) (Cert.Fox.lane j) := by
  have es := fun p => score_at x0 x1 x3 hq hk hf b (Cert.Fox.head j) i p
  have em := shift_at x0 x1 x3 b (Cert.Fox.head j) i
  have ew := fun p => weight_at x0 x1 x3 b (Cert.Fox.head j) i p
  refine (out_at x0 x1 x2 x3 b i j).trans ?_
  generalize val_main_v30 (F := Ideal) x0 x1 x3 = w at ew ⊢
  generalize val_main_v19 (F := Ideal) x0 x1 x3 = s at es ew em
  generalize val_main_v22 (F := Ideal) x0 x1 x3 = z at ew em
  rw [em] at ew
  rw [Finset.sum_congr rfl fun p _ => congrArg (fun a : EReal => a * at3 x2 b p j) (ew p)]
  unfold Cert.Fox.attn
  refine Cert.Fox.softmax_row (Nat.succ_pos _) (by omega) (Cert.Fox.logit (at3 x0) (at3 x1) (at3 x3) b i (Cert.Fox.head j)) (at3 x3 b (Cert.Fox.head j) i).toReal
    _ (fun p => s (ix4 b (Cert.Fox.head j) i p)) es _ (fun p => ?_)
  show at3 x2 b p j = at3 x2 b (Cert.Fox.at' p) (Cert.Fox.col (Cert.Fox.head j) (Cert.Fox.lane j))
  rw [Cert.Fox.at'_val, Cert.Fox.col_head_lane]

end Cert.ReferenceIdeal.Fox
end
-- ==== Proof.PostMath.lean ====
module

public import proofs.«01_k».proof.Proof.RowMath

@[expose] public section
noncomputable section

/-! The arithmetic of one token of a layer's second half, over the extended reals: residual, norm,
attention over the memory, squared-ReLU feed-forward, final norm. -/

namespace Cert.Post

open Idealize.ShloMosaic Finset Cert.Fox

/-! ## The functions -/

/-- The reciprocal square root of the mean square, with the constant added for safety, times a learned gain. -/
def rms (z g : Fin 1024 → EReal) (e : Fin 1024) : EReal :=
  z e * Ideal.rsqrt (Ideal.div (∑ k, z k * z k) (Ideal.ofBits FTy.f32 0x44800000#32) + Ideal.ofBits FTy.f32 0x358637BD#32) * g e

/-- A row times a matrix. -/
def lin {n p : ℕ} (a : Fin n → EReal) (w : Fin n → Fin p → EReal) (e : Fin p) : EReal := ∑ k, a k * w k e

/-- The scale of the scores: the nearest single-precision number to one over the square root of 128. -/
def scale : EReal := Ideal.ofBits FTy.f32 0x3DB504F3#32

/-- The score of memory slot `j` in head `h`. -/
def score (q : Fin 512 → EReal) (k : Fin 256 → Fin 4 → Fin 128 → EReal) (h : Fin 4) (j : Fin 256) : EReal :=
  (∑ d, q (col h d) * k j h d) * scale

/-- A softmax of the scores applied to values, dividing each weight by the sum of the weights. -/
def soften (s : Fin 256 → EReal) (v : Fin 256 → EReal) : EReal :=
  ∑ j, v j * Ideal.div (Ideal.exp (s j - univ.fold max ⊥ s)) (∑ i, Ideal.exp (s i - univ.fold max ⊥ s))

/-- The same, dividing once at the end. -/
def soften' (s : Fin 256 → EReal) (v : Fin 256 → EReal) : EReal :=
  Ideal.div (∑ j, Ideal.exp (s j - univ.fold max ⊥ s) * v j) (∑ i, Ideal.exp (s i - univ.fold max ⊥ s))

/-- The four heads' results side by side. -/
def heads (q : Fin 512 → EReal) (k v : Fin 256 → Fin 4 → Fin 128 → EReal) (f : Fin 512) : EReal :=
  soften (score q k (head f)) (fun j => v j (head f) (lane f))

/-- The squared ReLU of a hidden unit. -/
def act (n : Fin 1024 → EReal) (up : Fin 1024 → Fin 4096 → EReal) (f : Fin 4096) : EReal :=
  max (lin n up f) 0 * max (lin n up f) 0

/-- The stream after the mixer's output projection. -/
def stream1 (x o : Fin 1024 → EReal) (w : Fin 1024 → Fin 1024 → EReal) (e : Fin 1024) : EReal := x e + lin o w e

/-- The stream after the attention over the memory. -/
def stream2 (x1 gc : Fin 1024 → EReal) (wq : Fin 1024 → Fin 512 → EReal) (k v : Fin 256 → Fin 4 → Fin 128 → EReal)
    (wo : Fin 512 → Fin 1024 → EReal) (e : Fin 1024) : EReal :=
  x1 e + lin (heads (lin (rms x1 gc) wq) k v) wo e

/-- The stream after the feed-forward. -/
def stream3 (x2 gm : Fin 1024 → EReal) (up : Fin 1024 → Fin 4096 → EReal) (dn : Fin 4096 → Fin 1024 → EReal) (e : Fin 1024) : EReal :=
  x2 e + lin (act (rms x2 gm) up) dn e

/-- The whole row. -/
def post (x o : Fin 1024 → EReal) (w : Fin 1024 → Fin 1024 → EReal) (gc : Fin 1024 → EReal) (wq : Fin 1024 → Fin 512 → EReal)
    (k v : Fin 256 → Fin 4 → Fin 128 → EReal) (wo : Fin 512 → Fin 1024 → EReal) (gm : Fin 1024 → EReal)
    (up : Fin 1024 → Fin 4096 → EReal) (dn : Fin 4096 → Fin 1024 → EReal) (gf : Fin 1024 → EReal) : Fin 1024 → EReal :=
  rms (stream3 (stream2 (stream1 x o w) gc wq k v wo) gm up dn) gf

/-- Two rows of 512 side by side. -/
def cat (a b : Fin 512 → EReal) (k : Fin 1024) : EReal := if h : k.val < 512 then a ⟨k.val, h⟩ else b ⟨k.val - 512, by omega⟩

/-- The whole row before the final norm. -/
def open_post (x o : Fin 1024 → EReal) (w : Fin 1024 → Fin 1024 → EReal) (gc : Fin 1024 → EReal) (wq : Fin 1024 → Fin 512 → EReal)
    (k v : Fin 256 → Fin 4 → Fin 128 → EReal) (wo : Fin 512 → Fin 1024 → EReal) (gm : Fin 1024 → EReal)
    (up : Fin 1024 → Fin 4096 → EReal) (dn : Fin 4096 → Fin 1024 → EReal) : Fin 1024 → EReal :=
  stream3 (stream2 (stream1 x o w) gc wq k v wo) gm up dn

/-! ## Real numbers stay real -/

/-- Neither infinity. -/
def IsR (z : EReal) : Prop := ∃ r : ℝ, z = (r : EReal)

/-- A product of real numbers is one. -/
theorem IsR.mul {a b : EReal} : IsR a → IsR b → IsR (a * b) := by
  rintro ⟨r, rfl⟩ ⟨s, rfl⟩; exact ⟨r * s, (EReal.coe_mul r s).symm⟩

/-- So is a sum. -/
theorem IsR.sum {ι : Type*} (S : Finset ι) {f : ι → EReal} (h : ∀ i, IsR (f i)) : IsR (∑ i ∈ S, f i) := by
  choose r hr using h
  exact ⟨∑ i ∈ S, r i, by rw [coe_sum]; exact sum_congr rfl fun i _ => hr i⟩

/-- So is a real row times a real matrix. -/
theorem IsR.lin {n p : ℕ} {a : Fin n → EReal} {w : Fin n → Fin p → EReal} (ha : ∀ k, IsR (a k)) (hw : ∀ k e, IsR (w k e)) (e : Fin p) :
    IsR (Post.lin a w e) := IsR.sum _ fun k => (ha k).mul (hw k e)

/-- The word of 1024, the width of the stream. -/
theorem width_at : Ideal.ofBits FTy.f32 0x44800000#32 = ((1024 : ℝ) : EReal) := by
  simp [Ideal.ofBits, Ideal.ieee, -EReal.coe_mul]; norm_num

/-- The norm's constant is positive. -/
theorem eps_at : ∃ r : ℝ, 0 < r ∧ Ideal.ofBits FTy.f32 0x358637BD#32 = (r : EReal) := by
  refine ⟨_, ?_, by simp [Ideal.ofBits, Ideal.ieee, -EReal.coe_mul]; rfl⟩
  norm_num

/-- The scale is not negative. -/
theorem scale_at : ∃ r : ℝ, 0 ≤ r ∧ scale = (r : EReal) := by
  refine ⟨_, ?_, by simp [scale, Ideal.ofBits, Ideal.ieee, -EReal.coe_mul]; rfl⟩
  norm_num

/-- The norm is real where the gain is: the mean square plus a positive constant is positive, and infinite only
where the row holds an infinity; its reciprocal root is then zero. -/
theorem IsR.rms (z : Fin 1024 → EReal) {g : Fin 1024 → EReal} (hg : ∀ k, IsR (g k)) (e : Fin 1024) : IsR (Post.rms z g e) := by
  unfold Post.rms
  refine IsR.mul ?_ (hg e)
  obtain ⟨ε, hε, eε⟩ := eps_at
  by_cases hz : ∀ k, IsR (z k)
  · refine (hz e).mul ?_
    choose r hr using hz
    have e1 : (∑ k, z k * z k) = ((∑ k, r k * r k : ℝ) : EReal) := by
      rw [coe_sum]; exact sum_congr rfl fun k _ => by rw [hr, EReal.coe_mul]
    have hS : 0 ≤ ∑ k, r k * r k := sum_nonneg fun k _ => mul_self_nonneg _
    rw [e1, width_at, Ideal.div_coe (by norm_num), eε, ← EReal.coe_mul, ← EReal.coe_add, Ideal.rsqrt_coe]
    have hp : 0 < (∑ k, r k * r k) * (1 / 1024) + ε := by positivity
    rw [if_neg (not_lt.mpr hp.le), if_neg hp.ne']
    exact ⟨_, rfl⟩
  · obtain ⟨k, hk⟩ := not_forall.mp hz
    have sq : ∀ y : EReal, 0 ≤ y * y := fun y => by
      induction y using EReal.rec with
      | bot => simp
      | top => simp
      | coe r => rw [← EReal.coe_mul]; exact EReal.coe_nonneg.mpr (mul_self_nonneg r)
    have top : z k * z k = ⊤ := by
      generalize z k = y at *
      induction y using EReal.rec with
      | bot => simp
      | top => simp
      | coe r => exact absurd ⟨r, rfl⟩ hk
    have e1 : (∑ k, z k * z k) = ⊤ := top_le_iff.mp (top ▸ single_le_sum (fun i _ => sq (z i)) (mem_univ k))
    rw [e1, width_at, Ideal.div_coe (by norm_num), EReal.top_mul_coe_of_pos (by norm_num), eε, EReal.top_add_coe]
    exact ⟨0, by show z e * 0 = ((0 : ℝ) : EReal); rw [mul_zero, EReal.coe_zero]⟩

/-- Real queries and keys give real scores. -/
theorem IsR.score {q : Fin 512 → EReal} {k : Fin 256 → Fin 4 → Fin 128 → EReal} (hq : ∀ f, IsR (q f)) (hk : ∀ j h d, IsR (k j h d))
    (h : Fin 4) (j : Fin 256) : IsR (Post.score q k h j) := by
  obtain ⟨r, -, hr⟩ := scale_at
  exact (IsR.sum _ fun d => (hq _).mul (hk _ _ _)).mul ⟨r, hr⟩

/-! ## The two orders of scaling, of dividing and of summing -/

/-- Scaling the query first scales the score. -/
theorem score_scaled (q : Fin 512 → EReal) (k : Fin 256 → Fin 4 → Fin 128 → EReal) (h : Fin 4) (j : Fin 256) :
    ∑ d, q (col h d) * scale * k j h d = score q k h j := by
  obtain ⟨r, h0, hr⟩ := scale_at
  unfold score
  rw [hr, mul_comm, coe_mul_sum _ _ h0]
  exact sum_congr rfl fun d _ => by rw [mul_comm (q _), mul_assoc]

/-- Real scores: dividing once at the end is dividing every weight. -/
theorem soften_eq (s v : Fin 256 → EReal) (hs : ∀ j, IsR (s j)) : soften' s v = soften s v := by
  choose r hr using hs
  obtain ⟨M, hM⟩ := max_real ⊥ bot_ne_top s (fun j => by rw [hr]; exact EReal.coe_ne_top _) 0 (by rw [hr]; exact EReal.coe_ne_bot _)
  rw [bot_sup_eq] at hM
  have he : ∀ j, Ideal.exp (s j - univ.fold max ⊥ s) = ((Real.exp (r j - M) : ℝ) : EReal) := fun j => by
    rw [hM, hr, ← EReal.coe_sub, Ideal.exp_coe]
  unfold soften soften'
  simp only [he]
  rw [← coe_sum]
  have hL : 0 < ∑ j, Real.exp (r j - M) := sum_pos (fun j _ => Real.exp_pos _) ⟨0, mem_univ _⟩
  rw [Ideal.div_coe hL.ne', mul_comm, coe_mul_sum _ _ (one_div_nonneg.mpr hL.le)]
  refine sum_congr rfl fun j _ => ?_
  rw [Ideal.div_coe hL.ne', mul_comm (v j), mul_comm, mul_assoc, mul_comm (v j), ← mul_assoc]

/-- Two rows of 512 side by side times a matrix: each times its half of the matrix. -/
theorem lin_cat {p : ℕ} (a b : Fin 512 → EReal) (w : Fin 1024 → Fin p → EReal) (e : Fin p) :
    lin (cat a b) w e = ∑ k, a k * w ⟨k, by omega⟩ e + ∑ k, b k * w ⟨512 + k, by omega⟩ e := by
  unfold lin
  refine (Fin.sum_univ_add (a := 512) (b := 512) fun k => cat a b k * w k e).trans (congrArg₂ (· + ·) ?_ ?_)
  · refine sum_congr rfl fun k _ => congrArg (· * _) ?_
    exact dif_pos k.isLt
  · refine sum_congr rfl fun k _ => congrArg (· * _) ?_
    unfold cat
    rw [dif_neg (by show ¬(512 + k.val < 512); omega)]
    exact congrArg b (Fin.ext (by show 512 + k.val - 512 = k.val; omega))

/-- Chunk `c` of the hidden units: 512 of them. -/
def unit (c : Fin 8) (g : Fin 512) : Fin 4096 := ⟨512 * c + g, by omega⟩

/-- The part of the feed-forward that a chunk of hidden units gives. -/
def part (a : Fin 4096 → EReal) (dn : Fin 4096 → Fin 1024 → EReal) (c : Fin 8) (e : Fin 1024) : EReal :=
  ∑ g, a (unit c g) * dn (unit c g) e

/-- The eight chunks together are all hidden units. -/
theorem parts (a : Fin 4096 → EReal) (dn : Fin 4096 → Fin 1024 → EReal) (e : Fin 1024) : ∑ c, part a dn c e = lin a dn e := by
  unfold part lin
  rw [← Fintype.sum_prod_type']
  refine Fintype.sum_equiv (finProdFinEquiv (m := 8) (n := 512)) _ _ fun p => ?_
  have : unit p.1 p.2 = finProdFinEquiv (m := 8) (n := 512) p := Fin.ext (by simp [unit, finProdFinEquiv]; omega)
  rw [this]

/-- Added to the stream one after the other. -/
theorem chunks (x2 : EReal) (a : Fin 4096 → EReal) (dn : Fin 4096 → Fin 1024 → EReal) (e : Fin 1024) :
    x2 + part a dn 0 e + part a dn 1 e + part a dn 2 e + part a dn 3 e + part a dn 4 e + part a dn 5 e + part a dn 6 e + part a dn 7 e
      = x2 + lin a dn e := by
  rw [← parts, Fin.sum_univ_eight]
  simp only [add_assoc]

end Cert.Post
end
-- ==== Proof.PostBody.lean ====
module

public import proofs.«01_k».proof.Proof.PostMath
public import proofs.«01_k».proof.Proof.Gen.Kernel2Ideal.Skeleton
public import Idealize.ShloMosaic.Lib.Pointwise

@[expose] public section
set_option maxRecDepth 16384
noncomputable section

/-! What the kernel's body computes for one token (row `r` of its tile of 512), step by step: each group of its
operations is the function of `PostMath` that the reference computes too, up to the order of scaling, dividing and summing. -/

namespace Cert.Kernel2Ideal.Post

open Cert.Kernel2Ideal Cert.Kernel2Ideal.Gen Idealize.ShloMosaic Cert.Post
open Cert.Fox (neg_inf col head lane)

section Row
variable (r : Fin 512)

/-- Two chunks of 512 columns of the output projection, put side by side. -/
theorem stream1_at (v0 : Vec Ideal S1x512x1024 .f32) (v2 : Vec Ideal S1x512x1024 .bf16) (v6 v13 : Vec Ideal S1024x512 .bf16)
    {x o : Fin 1024 → EReal} {w : Fin 1024 → Fin 1024 → EReal} (hx : ∀ e, v0 (ix3 0 r e) = x e) (ho : ∀ e, v2 (ix3 0 r e) = o e)
    (h6 : ∀ k (e : Fin 512), v6 (ix2 k e) = w k ⟨e, by omega⟩) (h13 : ∀ k (e : Fin 512), v13 (ix2 k e) = w k ⟨512 + e, by omega⟩) (e : Fin 1024) :
    k0_pay2 (F := Ideal) v0 v2 v6 v13 (ix2 r e) = stream1 x o w e := by
  unfold k0_pay2
  pointwise
  unfold stream1 lin
  split
  · simp only [hx, ho, h6]
  · have he : (⟨512 + (e.val - 512), by omega⟩ : Fin 1024) = e := Fin.ext (by show 512 + (e.val - 512) = e.val; omega)
    simp only [hx, ho, h13, he]

/-- The norm before the attention. -/
theorem norm1_at (v0 : Vec Ideal S1x512x1024 .f32) (v2 : Vec Ideal S1x512x1024 .bf16) (v6 v13 : Vec Ideal S1024x512 .bf16) (v20 : Vec Ideal S1x1024 .f32)
    {z g : Fin 1024 → EReal} (hz : ∀ e, k0_pay2 (F := Ideal) v0 v2 v6 v13 (ix2 r e) = z e) (hg : ∀ e, v20 (ix2 0 e) = g e) (e : Fin 1024) :
    k0_pay3 (F := Ideal) v0 v2 v6 v13 v20 (ix2 r e) = rms z g e := by
  unfold k0_pay3
  generalize k0_pay2 (F := Ideal) v0 v2 v6 v13 = y at *
  pointwise
  simp only [hz, hg]
  rfl

/-- The query's projection and its scale. -/
theorem query_at (v34 : FVec Ideal S512x1024 .bf16) (v35 : Vec Ideal S1024x512 .bf16) {n : Fin 1024 → EReal} {wq : Fin 1024 → Fin 512 → EReal}
    (hn : ∀ e, v34 (ix2 r e) = n e) (hw : ∀ k f, v35 (ix2 k f) = wq k f) (f : Fin 512) :
    k0_pay5 (F := Ideal) v34 (k0_pay4 v35) (ix2 r f) = lin n wq f * scale := by
  unfold k0_pay5 k0_pay4
  pointwise
  simp only [hn, hw]
  rfl

variable {q : Fin 512 → EReal} {k v : Fin 256 → Fin 4 → Fin 128 → EReal}

/-- The scores of a head, from its 128 columns of the scaled query. -/
theorem head_sum {y : S512x512.Idx → EReal} (kk : S1x1x256x128.Idx → EReal) (h : Fin 4) (hq : ∀ f, y (ix2 r f) = q f * scale)
    (hk : ∀ j d, kk (ix4 0 0 j d) = k j h d) (j : Fin 256) (c : Fin 128 → Fin 512) (hc : ∀ d, (c d).val = 128 * h.val + d.val) :
    ∑ d, y (ix2 r (c d)) * kk (ix4 0 0 j d) = score q k h j := by
  rw [← score_scaled]
  refine Finset.sum_congr rfl fun d _ => ?_
  rw [hq, hk, show c d = col h d from Fin.ext (hc d)]

/-- The first head. -/
theorem head0_at (v34 : FVec Ideal S512x1024 .bf16) (v36 : FVec Ideal S1024x512 .bf16) (kk vv : Vec Ideal S1x1x256x128 .f32)
    (hq : ∀ f, k0_pay5 (F := Ideal) v34 v36 (ix2 r f) = q f * scale) (hk : ∀ j d, kk (ix4 0 0 j d) = k j 0 d) (hv : ∀ j d, vv (ix4 0 0 j d) = v j 0 d)
    (d : Fin 128) : k0_pay6 (F := Ideal) v34 v36 kk vv (ix2 r d) = soften' (score q k 0) (fun j => v j 0 d) := by
  unfold k0_pay6
  generalize k0_pay5 (F := Ideal) v34 v36 = y at *
  have hS := fun j => head_sum r kk 0 hq hk j (fun d => ⟨d.val, by omega⟩) (fun d => (Nat.zero_add _).symm)
  pointwise
  simp only [hS, hv, neg_inf]
  rfl

/-- The second head. -/
theorem head1_at (v34 : FVec Ideal S512x1024 .bf16) (v36 : FVec Ideal S1024x512 .bf16) (kk vv : Vec Ideal S1x1x256x128 .f32)
    (hq : ∀ f, k0_pay5 (F := Ideal) v34 v36 (ix2 r f) = q f * scale) (hk : ∀ j d, kk (ix4 0 0 j d) = k j 1 d) (hv : ∀ j d, vv (ix4 0 0 j d) = v j 1 d)
    (d : Fin 128) : k0_pay10 (F := Ideal) (k0_pay8 v34 v36 kk) (k0_pay9 v34 v36 kk) vv (ix2 r d) = soften' (score q k 1) (fun j => v j 1 d) := by
  unfold k0_pay10 k0_pay8 k0_pay9 k0_pay7
  generalize k0_pay5 (F := Ideal) v34 v36 = y at *
  have hS := fun j => head_sum r kk 1 hq hk j (fun d => ⟨128 + d.val, by omega⟩) (fun d => rfl)
  pointwise
  simp only [hS, hv, neg_inf]
  rfl

/-- The third head. -/
theorem head2_at (y : FVec Ideal S512x512 .bf16) (kk vv : Vec Ideal S1x1x256x128 .f32)
    (hq : ∀ f, y (ix2 r f) = q f * scale) (hk : ∀ j d, kk (ix4 0 0 j d) = k j 2 d) (hv : ∀ j d, vv (ix4 0 0 j d) = v j 2 d)
    (d : Fin 128) : k0_pay11 (F := Ideal) y kk vv (ix2 r d) = soften' (score q k 2) (fun j => v j 2 d) := by
  unfold k0_pay11
  have hS := fun j => head_sum r kk 2 hq hk j (fun d => ⟨256 + d.val, by omega⟩) (fun d => rfl)
  pointwise
  simp only [hS, hv, neg_inf]
  rfl

/-- The four heads side by side, each having divided once at the end. -/
theorem heads_split (hs : ∀ h j, IsR (score q k h j)) (f : Fin 512) :
    (if a0 : f.val < 128 then soften' (score q k 0) (fun j => v j 0 ⟨f.val, a0⟩)
      else if a1 : f.val - 128 < 128 then soften' (score q k 1) (fun j => v j 1 ⟨f.val - 128, a1⟩)
      else if a2 : f.val - 128 - 128 < 128 then soften' (score q k 2) (fun j => v j 2 ⟨f.val - 128 - 128, a2⟩)
      else soften' (score q k 3) (fun j => v j 3 ⟨f.val - 128 - 128 - 128, by omega⟩)) = heads q k v f := by
  have hf : ∀ (h : Fin 4) (d : Fin 128), f.val = 128 * h.val + d.val → heads q k v f = soften' (score q k h) (fun j => v j h d) := by
    intro h d hd
    have e1 : head f = h := Fin.ext (by show f.val / 128 = h.val; omega)
    have e2 : lane f = d := Fin.ext (by show f.val % 128 = d.val; omega)
    unfold heads
    rw [e1, e2, soften_eq _ _ (hs h)]
  by_cases a0 : f.val < 128
  · rw [dif_pos a0]
    exact (hf 0 ⟨f.val, a0⟩ (by simp)).symm
  rw [dif_neg a0]
  by_cases a1 : f.val - 128 < 128
  · rw [dif_pos a1]
    exact (hf 1 ⟨f.val - 128, a1⟩ (by show f.val = 128 * 1 + (f.val - 128); omega)).symm
  rw [dif_neg a1]
  by_cases a2 : f.val - 128 - 128 < 128
  · rw [dif_pos a2]
    exact (hf 2 ⟨f.val - 128 - 128, a2⟩ (by show f.val = 128 * 2 + (f.val - 128 - 128); omega)).symm
  rw [dif_neg a2]
  exact (hf 3 ⟨f.val - 128 - 128 - 128, by omega⟩ (by show f.val = 128 * 3 + (f.val - 128 - 128 - 128); omega)).symm

/-- The last head, whose weights and their sum arrive separately, the four heads side by side, and the projection back. -/
theorem stream2_at (v19 : FVec Ideal S512x1024 .f32) (v60 v80 v100 : FVec Ideal S512x128 .bf16) (y : FVec Ideal S512x512 .bf16)
    (kk vv : Vec Ideal S1x1x256x128 .f32) (v122 : Vec Ideal S512x1024 .bf16) {x1 : Fin 1024 → EReal} {wo : Fin 512 → Fin 1024 → EReal}
    (hx : ∀ e, v19 (ix2 r e) = x1 e) (h0 : ∀ d, v60 (ix2 r d) = soften' (score q k 0) (fun j => v j 0 d))
    (h1 : ∀ d, v80 (ix2 r d) = soften' (score q k 1) (fun j => v j 1 d)) (h2 : ∀ d, v100 (ix2 r d) = soften' (score q k 2) (fun j => v j 2 d))
    (hq : ∀ f, y (ix2 r f) = q f * scale) (hk : ∀ j d, kk (ix4 0 0 j d) = k j 3 d) (hv : ∀ j d, vv (ix4 0 0 j d) = v j 3 d)
    (hw : ∀ f e, v122 (ix2 f e) = wo f e) (hs : ∀ h j, IsR (score q k h j)) (e : Fin 1024) :
    k0_pay14 (F := Ideal) v19 v60 v80 v100 (k0_pay12 y kk) (k0_pay13 y kk) vv v122 (ix2 r e) = x1 e + lin (heads q k v) wo e := by
  unfold k0_pay14 k0_pay13 k0_pay12
  have hS := fun j => head_sum r kk 3 hq hk j (fun d => ⟨384 + d.val, by omega⟩) (fun d => rfl)
  pointwise
  simp only [hS, hv, neg_inf, hx, h0, h1, h2, hw]
  exact congrArg (x1 e + ·) (Finset.sum_congr rfl fun f _ => congrArg (· * wo f e) (heads_split hs f))

/-- The norm before the feed-forward. -/
theorem norm2_at (v19 : FVec Ideal S512x1024 .f32) (v60 v80 v100 : FVec Ideal S512x128 .bf16) (p : FVec Ideal S512x256 .f32) (l : FVec Ideal S512 .f32)
    (vv : Vec Ideal S1x1x256x128 .f32) (v122 : Vec Ideal S512x1024 .bf16) (v126 : Vec Ideal S1x1024 .f32) {z g : Fin 1024 → EReal}
    (hz : ∀ e, k0_pay14 (F := Ideal) v19 v60 v80 v100 p l vv v122 (ix2 r e) = z e) (hg : ∀ e, v126 (ix2 0 e) = g e) (e : Fin 1024) :
    k0_pay15 (F := Ideal) v19 v60 v80 v100 p l vv v122 v126 (ix2 r e) = rms z g e := by
  unfold k0_pay15
  generalize k0_pay14 (F := Ideal) v19 v60 v80 v100 p l vv v122 = y at *
  pointwise
  simp only [hz, hg]
  rfl

variable {n z gf : Fin 1024 → EReal} {up : Fin 1024 → Fin 4096 → EReal} {dn : Fin 4096 → Fin 1024 → EReal}

/-- A chunk of hidden units: its columns of the first matrix, the squared ReLU, its rows of the second. -/
theorem chunk_at {y : S512x1024.Idx → EReal} (u : S1024x512.Idx → EReal) (w : S512x1024.Idx → EReal) (c : Fin 8) (hn : ∀ e, y (ix2 r e) = n e)
    (hu : ∀ k g, u (ix2 k g) = up k (unit c g)) (hw : ∀ g e, w (ix2 g e) = dn (unit c g) e) (e : Fin 1024) :
    ∑ g, max (∑ k, y (ix2 r k) * u (ix2 k g)) 0 * max (∑ k, y (ix2 r k) * u (ix2 k g)) 0 * w (ix2 g e) = part (act n up) dn c e := by
  unfold part act lin
  simp only [hn, hu, hw]

/-- The first chunk of hidden units. -/
theorem mlp0_at (v19 : FVec Ideal S512x1024 .f32) (v60 v80 v100 : FVec Ideal S512x128 .bf16) (p : FVec Ideal S512x256 .f32) (l : FVec Ideal S512 .f32)
    (vv : Vec Ideal S1x1x256x128 .f32) (v122 : Vec Ideal S512x1024 .bf16) (v126 : Vec Ideal S1x1024 .f32) (u : Vec Ideal S1024x512 .bf16)
    (w : Vec Ideal S512x1024 .bf16) (hz : ∀ e, k0_pay14 (F := Ideal) v19 v60 v80 v100 p l vv v122 (ix2 r e) = z e)
    (hn : ∀ e, k0_pay15 (F := Ideal) v19 v60 v80 v100 p l vv v122 v126 (ix2 r e) = n e)
    (hu : ∀ k g, u (ix2 k g) = up k (unit 0 g)) (hw : ∀ g e, w (ix2 g e) = dn (unit 0 g) e) (e : Fin 1024) :
    k0_pay16 (F := Ideal) v19 v60 v80 v100 p l vv v122 v126 u w (ix2 r e) = z e + part (act n up) dn 0 e := by
  unfold k0_pay16
  generalize k0_pay15 (F := Ideal) v19 v60 v80 v100 p l vv v122 v126 = y at *
  generalize k0_pay14 (F := Ideal) v19 v60 v80 v100 p l vv v122 = a at *
  have h := chunk_at r u w 0 hn hu hw e
  pointwise
  rw [hz, ← h]

/-- The next three. -/
theorem mlp3_at (y : FVec Ideal S512x1024 .bf16) (a : FVec Ideal S512x1024 .f32) (u1 u2 u3 : Vec Ideal S1024x512 .bf16)
    (w1 w2 w3 : Vec Ideal S512x1024 .bf16) (hn : ∀ e, y (ix2 r e) = n e)
    (hu1 : ∀ k g, u1 (ix2 k g) = up k (unit 1 g)) (hw1 : ∀ g e, w1 (ix2 g e) = dn (unit 1 g) e)
    (hu2 : ∀ k g, u2 (ix2 k g) = up k (unit 2 g)) (hw2 : ∀ g e, w2 (ix2 g e) = dn (unit 2 g) e)
    (hu3 : ∀ k g, u3 (ix2 k g) = up k (unit 3 g)) (hw3 : ∀ g e, w3 (ix2 g e) = dn (unit 3 g) e) (e : Fin 1024) :
    k0_pay17 (F := Ideal) y a u1 w1 u2 w2 u3 w3 (ix2 r e)
      = a (ix2 r e) + part (act n up) dn 1 e + part (act n up) dn 2 e + part (act n up) dn 3 e := by
  unfold k0_pay17
  have h1 := chunk_at r u1 w1 1 hn hu1 hw1 e
  have h2 := chunk_at r u2 w2 2 hn hu2 hw2 e
  have h3 := chunk_at r u3 w3 3 hn hu3 hw3 e
  pointwise
  rw [← h1, ← h2, ← h3]

/-- The next three. -/
theorem mlp6_at (y : FVec Ideal S512x1024 .bf16) (a : FVec Ideal S512x1024 .f32) (u4 u5 u6 : Vec Ideal S1024x512 .bf16)
    (w4 w5 w6 : Vec Ideal S512x1024 .bf16) (hn : ∀ e, y (ix2 r e) = n e)
    (hu4 : ∀ k g, u4 (ix2 k g) = up k (unit 4 g)) (hw4 : ∀ g e, w4 (ix2 g e) = dn (unit 4 g) e)
    (hu5 : ∀ k g, u5 (ix2 k g) = up k (unit 5 g)) (hw5 : ∀ g e, w5 (ix2 g e) = dn (unit 5 g) e)
    (hu6 : ∀ k g, u6 (ix2 k g) = up k (unit 6 g)) (hw6 : ∀ g e, w6 (ix2 g e) = dn (unit 6 g) e) (e : Fin 1024) :
    k0_pay19 (F := Ideal) y a (k0_pay18 y u4) w4 u5 w5 u6 w6 (ix2 r e)
      = a (ix2 r e) + part (act n up) dn 4 e + part (act n up) dn 5 e + part (act n up) dn 6 e := by
  unfold k0_pay19 k0_pay18
  have h1 := chunk_at r u4 w4 4 hn hu4 hw4 e
  have h2 := chunk_at r u5 w5 5 hn hu5 hw5 e
  have h3 := chunk_at r u6 w6 6 hn hu6 hw6 e
  pointwise
  rw [← h1, ← h2, ← h3]

/-- The last chunk and the final norm. -/
theorem last_at (y : FVec Ideal S512x1024 .bf16) (a : FVec Ideal S512x1024 .f32) (u : Vec Ideal S1024x512 .bf16) (w : Vec Ideal S512x1024 .bf16)
    (v229 : Vec Ideal S1x1024 .f32) (hn : ∀ e, y (ix2 r e) = n e) (hu : ∀ k g, u (ix2 k g) = up k (unit 7 g))
    (hw : ∀ g e, w (ix2 g e) = dn (unit 7 g) e) (ha : ∀ e, a (ix2 r e) + part (act n up) dn 7 e = z e) (hg : ∀ e, v229 (ix2 0 e) = gf e) (e : Fin 1024) :
    k0_pay1 (F := Ideal) a (k0_pay20 y u) w v229 (ix3 0 r e) = rms z gf e := by
  unfold k0_pay1 k0_pay20
  have h := chunk_at r u w 7 hn hu hw
  pointwise
  simp only [h, ha, hg]
  rfl

/-- The whole body at one token: from what it loads to what it stores. -/
theorem body_at (v0 : Vec Ideal S1x512x1024 .f32) (v2 : Vec Ideal S1x512x1024 .bf16) (v6 v13 : Vec Ideal S1024x512 .bf16) (v20 : Vec Ideal S1x1024 .f32)
    (v35 : Vec Ideal S1024x512 .bf16) (k0 w0 k1 w1 k2 w2 k3 w3 : Vec Ideal S1x1x256x128 .f32) (v122 : Vec Ideal S512x1024 .bf16)
    (v126 : Vec Ideal S1x1024 .f32) (u0 u1 u2 u3 u4 u5 u6 u7 : Vec Ideal S1024x512 .bf16) (d0 d1 d2 d3 d4 d5 d6 d7 : Vec Ideal S512x1024 .bf16)
    (v229 : Vec Ideal S1x1024 .f32) {x o gc gm gf : Fin 1024 → EReal} {w : Fin 1024 → Fin 1024 → EReal} {wq : Fin 1024 → Fin 512 → EReal}
    {wo : Fin 512 → Fin 1024 → EReal}
    (hx : ∀ e, v0 (ix3 0 r e) = x e) (ho : ∀ e, v2 (ix3 0 r e) = o e) (h6 : ∀ k (e : Fin 512), v6 (ix2 k e) = w k ⟨e, by omega⟩)
    (h13 : ∀ k (e : Fin 512), v13 (ix2 k e) = w k ⟨512 + e, by omega⟩) (hgc : ∀ e, v20 (ix2 0 e) = gc e) (hwq : ∀ k f, v35 (ix2 k f) = wq k f)
    (hk0 : ∀ j d, k0 (ix4 0 0 j d) = k j 0 d) (hw0 : ∀ j d, w0 (ix4 0 0 j d) = v j 0 d)
    (hk1 : ∀ j d, k1 (ix4 0 0 j d) = k j 1 d) (hw1 : ∀ j d, w1 (ix4 0 0 j d) = v j 1 d)
    (hk2 : ∀ j d, k2 (ix4 0 0 j d) = k j 2 d) (hw2 : ∀ j d, w2 (ix4 0 0 j d) = v j 2 d)
    (hk3 : ∀ j d, k3 (ix4 0 0 j d) = k j 3 d) (hw3 : ∀ j d, w3 (ix4 0 0 j d) = v j 3 d)
    (hwo : ∀ f e, v122 (ix2 f e) = wo f e) (hgm : ∀ e, v126 (ix2 0 e) = gm e)
    (hu0 : ∀ k g, u0 (ix2 k g) = up k (unit 0 g)) (hd0 : ∀ g e, d0 (ix2 g e) = dn (unit 0 g) e)
    (hu1 : ∀ k g, u1 (ix2 k g) = up k (unit 1 g)) (hd1 : ∀ g e, d1 (ix2 g e) = dn (unit 1 g) e)
    (hu2 : ∀ k g, u2 (ix2 k g) = up k (unit 2 g)) (hd2 : ∀ g e, d2 (ix2 g e) = dn (unit 2 g) e)
    (hu3 : ∀ k g, u3 (ix2 k g) = up k (unit 3 g)) (hd3 : ∀ g e, d3 (ix2 g e) = dn (unit 3 g) e)
    (hu4 : ∀ k g, u4 (ix2 k g) = up k (unit 4 g)) (hd4 : ∀ g e, d4 (ix2 g e) = dn (unit 4 g) e)
    (hu5 : ∀ k g, u5 (ix2 k g) = up k (unit 5 g)) (hd5 : ∀ g e, d5 (ix2 g e) = dn (unit 5 g) e)
    (hu6 : ∀ k g, u6 (ix2 k g) = up k (unit 6 g)) (hd6 : ∀ g e, d6 (ix2 g e) = dn (unit 6 g) e)
    (hu7 : ∀ k g, u7 (ix2 k g) = up k (unit 7 g)) (hd7 : ∀ g e, d7 (ix2 g e) = dn (unit 7 g) e)
    (hgf : ∀ e, v229 (ix2 0 e) = gf e) (rg : ∀ e, IsR (gc e))
    (rq : ∀ k f, IsR (wq k f)) (rk : ∀ j h d, IsR (k j h d)) (e : Fin 1024) :
    k0_pay1 (F := Ideal) (k0_pay19 (k0_pay15 (k0_pay2 v0 v2 v6 v13) (k0_pay6 (k0_pay3 v0 v2 v6 v13 v20) (k0_pay4 v35) k0 w0) (k0_pay10 (k0_pay8 (k0_pay3 v0 v2 v6 v13 v20) (k0_pay4 v35) k1) (k0_pay9 (k0_pay3 v0 v2 v6 v13 v20) (k0_pay4 v35) k1) w1) (k0_pay11 (k0_pay5 (k0_pay3 v0 v2 v6 v13 v20) (k0_pay4 v35)) k2 w2) (k0_pay12 (k0_pay5 (k0_pay3 v0 v2 v6 v13 v20) (k0_pay4 v35)) k3) (k0_pay13 (k0_pay5 (k0_pay3 v0 v2 v6 v13 v20) (k0_pay4 v35)) k3) w3 v122 v126) (k0_pay17 (k0_pay15 (k0_pay2 v0 v2 v6 v13) (k0_pay6 (k0_pay3 v0 v2 v6 v13 v20) (k0_pay4 v35) k0 w0) (k0_pay10 (k0_pay8 (k0_pay3 v0 v2 v6 v13 v20) (k0_pay4 v35) k1) (k0_pay9 (k0_pay3 v0 v2 v6 v13 v20) (k0_pay4 v35) k1) w1) (k0_pay11 (k0_pay5 (k0_pay3 v0 v2 v6 v13 v20) (k0_pay4 v35)) k2 w2) (k0_pay12 (k0_pay5 (k0_pay3 v0 v2 v6 v13 v20) (k0_pay4 v35)) k3) (k0_pay13 (k0_pay5 (k0_pay3 v0 v2 v6 v13 v20) (k0_pay4 v35)) k3) w3 v122 v126) (k0_pay16 (k0_pay2 v0 v2 v6 v13) (k0_pay6 (k0_pay3 v0 v2 v6 v13 v20) (k0_pay4 v35) k0 w0) (k0_pay10 (k0_pay8 (k0_pay3 v0 v2 v6 v13 v20) (k0_pay4 v35) k1) (k0_pay9 (k0_pay3 v0 v2 v6 v13 v20) (k0_pay4 v35) k1) w1) (k0_pay11 (k0_pay5 (k0_pay3 v0 v2 v6 v13 v20) (k0_pay4 v35)) k2 w2) (k0_pay12 (k0_pay5 (k0_pay3 v0 v2 v6 v13 v20) (k0_pay4 v35)) k3) (k0_pay13 (k0_pay5 (k0_pay3 v0 v2 v6 v13 v20) (k0_pay4 v35)) k3) w3 v122 v126 u0 d0) u1 d1 u2 d2 u3 d3) (k0_pay18 (k0_pay15 (k0_pay2 v0 v2 v6 v13) (k0_pay6 (k0_pay3 v0 v2 v6 v13 v20) (k0_pay4 v35) k0 w0) (k0_pay10 (k0_pay8 (k0_pay3 v0 v2 v6 v13 v20) (k0_pay4 v35) k1) (k0_pay9 (k0_pay3 v0 v2 v6 v13 v20) (k0_pay4 v35) k1) w1) (k0_pay11 (k0_pay5 (k0_pay3 v0 v2 v6 v13 v20) (k0_pay4 v35)) k2 w2) (k0_pay12 (k0_pay5 (k0_pay3 v0 v2 v6 v13 v20) (k0_pay4 v35)) k3) (k0_pay13 (k0_pay5 (k0_pay3 v0 v2 v6 v13 v20) (k0_pay4 v35)) k3) w3 v122 v126) u4) d4 u5 d5 u6 d6) (k0_pay20 (k0_pay15 (k0_pay2 v0 v2 v6 v13) (k0_pay6 (k0_pay3 v0 v2 v6 v13 v20) (k0_pay4 v35) k0 w0) (k0_pay10 (k0_pay8 (k0_pay3 v0 v2 v6 v13 v20) (k0_pay4 v35) k1) (k0_pay9 (k0_pay3 v0 v2 v6 v13 v20) (k0_pay4 v35) k1) w1) (k0_pay11 (k0_pay5 (k0_pay3 v0 v2 v6 v13 v20) (k0_pay4 v35)) k2 w2) (k0_pay12 (k0_pay5 (k0_pay3 v0 v2 v6 v13 v20) (k0_pay4 v35)) k3) (k0_pay13 (k0_pay5 (k0_pay3 v0 v2 v6 v13 v20) (k0_pay4 v35)) k3) w3 v122 v126) u7) d7 v229 (ix3 0 r e)
      = post x o w gc wq k v wo gm up dn gf e := by
  have a1 := stream1_at r v0 v2 v6 v13 hx ho h6 h13
  have a2 := norm1_at r v0 v2 v6 v13 v20 a1 hgc
  have a3 := query_at r _ v35 a2 hwq
  have rs : ∀ h j, IsR (score (lin (rms (stream1 x o w) gc) wq) k h j) := fun h j => IsR.score (fun f => IsR.lin (IsR.rms _ rg) rq f) rk h j
  have b0 := head0_at r _ _ k0 w0 a3 hk0 hw0
  have b1 := head1_at r _ _ k1 w1 a3 hk1 hw1
  have b2 := head2_at r _ k2 w2 a3 hk2 hw2
  have c1 := stream2_at r _ _ _ _ _ k3 w3 v122 a1 b0 b1 b2 a3 hk3 hw3 hwo rs
  have c2 := norm2_at r _ _ _ _ _ _ w3 v122 v126 c1 hgm
  have m0 := mlp0_at r _ _ _ _ _ _ w3 v122 v126 u0 d0 c1 c2 hu0 hd0
  refine last_at r _ _ u7 d7 v229 c2 hu7 hd7 (fun e => ?_) hgf e
  rw [mlp6_at r _ _ u4 u5 u6 d4 d5 d6 c2 hu4 hd4 hu5 hd5 hu6 hd6, mlp3_at r _ _ u1 u2 u3 d1 d2 d3 c2 hu1 hd1 hu2 hd2 hu3 hd3, m0, chunks]
  rfl

end Row
end Cert.Kernel2Ideal.Post
end
-- ==== Proof.PostKernel.lean ====
module

public import proofs.«01_k».proof.Proof.PostBody
public import proofs.«01_k».proof.Proof.Gen.Kernel2Ideal.Frame
public import Idealize.ShloMosaic.Lib.Pipeline.ValueKit
public import Idealize.ShloMosaic.Lib.Pointwise
public import Idealize.ShloMosaic.Lib.WholeRead

@[expose] public section

set_option maxRecDepth 16384

noncomputable section

/-! What the kernel's program leaves in its result: `post` of its arguments, token by token. -/

namespace Cert.Kernel2Ideal.Post

open Cert.Kernel2Ideal Cert.Kernel2Ideal.Gen Idealize.ShloMosaic Idealize.ShloMosaic.TcCoe Idealize.SL.Sem
open Idealize.ShloMosaic.Pipeline (Dat)
open Cert.Post
open Cert.Fox (col head lane)

variable (m : (ℓ : Loc nD τ sig) → Buf (Elt Ideal) ℓ)

/-- Which block of each array a grid point works on. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![0, 0] ∧ win0_3.index t = ![0, 0] ∧ win0_4.index t = ![0, 0]
    ∧ win0_5.index t = ![1, (grid0.coords t 0).val, 0, 0] ∧ win0_6.index t = ![1, (grid0.coords t 0).val, 0, 0]
    ∧ win0_7.index t = ![0, 0] ∧ win0_8.index t = ![0, 0] ∧ win0_9.index t = ![0, 0] ∧ win0_10.index t = ![0, 0] ∧ win0_11.index t = ![0, 0]
    ∧ win0_12.index t = ![(grid0.coords t 0).val, (grid0.coords t 1).val, 0] :=
  (by decide +kernel : ∀ t : Fin grid0.N, _)

/-- The program's arguments by their coordinates. -/
def argX (c : Dev nD) (b : Fin 16) (i : Fin 2048) (e : Fin 1024) : EReal := m ((c : Thread nD τ).loc main_arg0) (ix3 b i e)
/-- The mixer's output. -/
def argO (c : Dev nD) (b : Fin 16) (i : Fin 2048) (e : Fin 1024) : EReal := m ((c : Thread nD τ).loc main_arg1) (ix3 b i e)
/-- The projection's weights. -/
def argW (c : Dev nD) (k e : Fin 1024) : EReal := m ((c : Thread nD τ).loc main_arg2) (ix2 k e)
/-- The gain before the attention. -/
def argGc (c : Dev nD) (e : Fin 1024) : EReal := m ((c : Thread nD τ).loc main_arg3) (ix1 e)
/-- The queries' weights. -/
def argWq (c : Dev nD) (k : Fin 1024) (f : Fin 512) : EReal := m ((c : Thread nD τ).loc main_arg4) (ix2 k f)
/-- The layer's memory keys. -/
def argK (c : Dev nD) (b : Fin 16) (j : Fin 256) (h : Fin 4) (d : Fin 128) : EReal := m ((c : Thread nD τ).loc main_arg5) (ix5 1 b j h d)
/-- The layer's memory values. -/
def argV (c : Dev nD) (b : Fin 16) (j : Fin 256) (h : Fin 4) (d : Fin 128) : EReal := m ((c : Thread nD τ).loc main_arg6) (ix5 1 b j h d)
/-- The weights after the attention. -/
def argWo (c : Dev nD) (f : Fin 512) (e : Fin 1024) : EReal := m ((c : Thread nD τ).loc main_arg7) (ix2 f e)
/-- The gain before the feed-forward. -/
def argGm (c : Dev nD) (e : Fin 1024) : EReal := m ((c : Thread nD τ).loc main_arg8) (ix1 e)
/-- The feed-forward's first weights. -/
def argUp (c : Dev nD) (k : Fin 1024) (f : Fin 4096) : EReal := m ((c : Thread nD τ).loc main_arg9) (ix2 k f)
/-- The feed-forward's second weights. -/
def argDn (c : Dev nD) (f : Fin 4096) (e : Fin 1024) : EReal := m ((c : Thread nD τ).loc main_arg10) (ix2 f e)
/-- The final gain. -/
def argGf (c : Dev nD) (e : Fin 1024) : EReal := m ((c : Thread nD τ).loc main_arg11) (ix1 e)

section Block
variable (c : Dev nD) (t : Fin cfg0.N)

/-- The projection's weights. -/
theorem w_at (k e : Fin 1024) : iblk m c 2 t (ix2 k e) = argW m c k e := by
  have h : ((cfg0.win 2).blk t).view.emb (ix2 k e) = ix2 k e := by blk_ext [idx t]
  unfold iblk
  show V m c main_v1 (((cfg0.win 2).blk t).view.emb (ix2 k e)) = _
  rw [h]; unfold argW; entry_read; pointwise

/-- The gain before the attention. -/
theorem gc_at (e : Fin 1024) : iblk m c 3 t (ix2 0 e) = argGc m c e := by
  have h : ((cfg0.win 3).blk t).view.emb (ix2 0 e) = ix2 0 e := by blk_ext [idx t]
  unfold iblk
  show V m c main_v8 (((cfg0.win 3).blk t).view.emb (ix2 0 e)) = _
  rw [h]; unfold argGc; entry_read; pointwise

/-- The queries' weights. -/
theorem wq_at (k : Fin 1024) (f : Fin 512) : iblk m c 4 t (ix2 k f) = argWq m c k f := by
  have h : ((cfg0.win 4).blk t).view.emb (ix2 k f) = ix2 k f := by blk_ext [idx t]
  unfold iblk
  show V m c main_v2 (((cfg0.win 4).blk t).view.emb (ix2 k f)) = _
  rw [h]; unfold argWq; entry_read; pointwise

/-- The weights after the attention. -/
theorem wo_at (f : Fin 512) (e : Fin 1024) : iblk m c 7 t (ix2 f e) = argWo m c f e := by
  have h : ((cfg0.win 7).blk t).view.emb (ix2 f e) = ix2 f e := by blk_ext [idx t]
  unfold iblk
  show V m c main_v5 (((cfg0.win 7).blk t).view.emb (ix2 f e)) = _
  rw [h]; unfold argWo; entry_read; pointwise

/-- The gain before the feed-forward. -/
theorem gm_at (e : Fin 1024) : iblk m c 8 t (ix2 0 e) = argGm m c e := by
  have h : ((cfg0.win 8).blk t).view.emb (ix2 0 e) = ix2 0 e := by blk_ext [idx t]
  unfold iblk
  show V m c main_v9 (((cfg0.win 8).blk t).view.emb (ix2 0 e)) = _
  rw [h]; unfold argGm; entry_read; pointwise

/-- The feed-forward's first weights. -/
theorem up_at (k : Fin 1024) (f : Fin 4096) : iblk m c 9 t (ix2 k f) = argUp m c k f := by
  have h : ((cfg0.win 9).blk t).view.emb (ix2 k f) = ix2 k f := by blk_ext [idx t]
  unfold iblk
  show V m c main_v6 (((cfg0.win 9).blk t).view.emb (ix2 k f)) = _
  rw [h]; unfold argUp; entry_read; pointwise

/-- The feed-forward's second weights. -/
theorem dn_at (f : Fin 4096) (e : Fin 1024) : iblk m c 10 t (ix2 f e) = argDn m c f e := by
  have h : ((cfg0.win 10).blk t).view.emb (ix2 f e) = ix2 f e := by blk_ext [idx t]
  unfold iblk
  show V m c main_v7 (((cfg0.win 10).blk t).view.emb (ix2 f e)) = _
  rw [h]; unfold argDn; entry_read; pointwise

/-- The final gain. -/
theorem gf_at (e : Fin 1024) : iblk m c 11 t (ix2 0 e) = argGf m c e := by
  have h : ((cfg0.win 11).blk t).view.emb (ix2 0 e) = ix2 0 e := by blk_ext [idx t]
  unfold iblk
  show V m c main_v10 (((cfg0.win 11).blk t).view.emb (ix2 0 e)) = _
  rw [h]; unfold argGf; entry_read; pointwise

variable (b : Fin 16) (hb : b.val = (grid0.coords t 0).val)
include hb

/-- Where an entry of the block lies in the result. -/
theorem emb_out (r : Fin 512) (e : Fin 1024) (i : Fin 2048) (hi : i.val = 512 * (grid0.coords t 1).val + r) :
    ((cfg0.win 12).blk t).view.emb (ix3 0 r e) = ix3 b i e := by
  blk_ext [idx t]

/-- The residual stream. -/
theorem x_at (r : Fin 512) (e : Fin 1024) (i : Fin 2048) (hi : i.val = 512 * (grid0.coords t 1).val + r) :
    iblk m c 0 t (ix3 0 r e) = argX m c b i e := by
  have h : ((cfg0.win 0).blk t).view.emb (ix3 0 r e) = ix3 b i e := by blk_ext [idx t]
  unfold iblk
  show V m c main_arg0 (((cfg0.win 0).blk t).view.emb (ix3 0 r e)) = _
  rw [h]; unfold argX; entry_read; rfl

/-- The mixer's output. -/
theorem o_at (r : Fin 512) (e : Fin 1024) (i : Fin 2048) (hi : i.val = 512 * (grid0.coords t 1).val + r) :
    iblk m c 1 t (ix3 0 r e) = argO m c b i e := by
  have h : ((cfg0.win 1).blk t).view.emb (ix3 0 r e) = ix3 b i e := by blk_ext [idx t]
  unfold iblk
  show V m c main_v0 (((cfg0.win 1).blk t).view.emb (ix3 0 r e)) = _
  rw [h]; unfold argO; entry_read; pointwise

/-- The memory's keys, four heads' rows to a slot. -/
theorem k_at (j : Fin 256) (h : Fin 4) (d : Fin 128) (R : Fin 1024) (hR : R.val = 4 * j.val + h.val) :
    iblk m c 5 t (ix4 0 0 R d) = argK m c b j h d := by
  have he : ((cfg0.win 5).blk t).view.emb (ix4 0 0 R d) = ix4 1 b R d := by blk_ext [idx t]
  unfold iblk
  show V m c main_v3 (((cfg0.win 5).blk t).view.emb (ix4 0 0 R d)) = _
  rw [he]; unfold argK; entry_read; pointwise
  rw [show (⟨R.val / 4, by omega⟩ : Fin 256) = j from Fin.ext (by show R.val / 4 = j.val; omega),
    show (⟨R.val % 4, by omega⟩ : Fin 4) = h from Fin.ext (by show R.val % 4 = h.val; omega)]

/-- The memory's values, likewise. -/
theorem v_at (j : Fin 256) (h : Fin 4) (d : Fin 128) (R : Fin 1024) (hR : R.val = 4 * j.val + h.val) :
    iblk m c 6 t (ix4 0 0 R d) = argV m c b j h d := by
  have he : ((cfg0.win 6).blk t).view.emb (ix4 0 0 R d) = ix4 1 b R d := by blk_ext [idx t]
  unfold iblk
  show V m c main_v4 (((cfg0.win 6).blk t).view.emb (ix4 0 0 R d)) = _
  rw [he]; unfold argV; entry_read; pointwise
  rw [show (⟨R.val / 4, by omega⟩ : Fin 256) = j from Fin.ext (by show R.val / 4 = j.val; omega),
    show (⟨R.val % 4, by omega⟩ : Fin 4) = h from Fin.ext (by show R.val % 4 = h.val; omega)]

end Block

/-- A load of every fourth row from row `o` on reads those rows. -/
theorem rows_at {sg : RefSig} (M : Memref sg .tc .vmem S1x1x1024x128 .f32) (hM : M.IsWhole) (X : Vec Ideal S1x1x1024x128 .f32) (o : ℕ) (ho : o < 4)
    (inb) (j : Fin 256) (d : Fin 128) :
    View.readAt (Elt Ideal) M.view (⟨![0, 0, o, 0], ![1, 1, 256, 128], ![1, 1, 4, 1], inb⟩ : LoadRect S1x1x1024x128) (hM.unread X) (ix4 0 0 j d)
      = X (ix4 0 0 ⟨4 * j.val + o, by omega⟩ d) := by
  rw [View.readAt_apply, hM.read_unread]
  refine congrArg X (funext fun a => Fin.ext ?_)
  rw [LoadRect.idx_apply]
  fin_cases a <;> simp [ix4]
  omega

/-- A load of a rectangle of a matrix reads the matrix from its corner on. -/
theorem ld2 {a b p q : ℕ} {η : EltTy} (X : Vec Ideal ⟨2, ![a, b]⟩ η) (o o' : ℕ) (inb) (i : Fin p) (j : Fin q) (i' : Fin a) (j' : Fin b)
    (hi : i'.val = o + i.val) (hj : j'.val = o' + j.val) :
    View.ld X (Rect.unit (s := ⟨2, ![a, b]⟩) ![o, o'] ![p, q] inb) (ix2 i j) = X (ix2 i' j') :=
  View.ld_unit_apply_of X ![o, o'] ![p, q] inb (ix2 i j) (ix2 i' j') (by intro x; fin_cases x <;> simp [ix2, hi, hj])

/-- What the program leaves in its result. -/
def out (c : Dev nD) (j : S16x2048x1024.Idx) : EReal :=
  post (argX m c (j 0) (j 1)) (argO m c (j 0) (j 1)) (argW m c) (argGc m c) (argWq m c) (argK m c (j 0)) (argV m c (j 0)) (argWo m c) (argGm m c)
    (argUp m c) (argDn m c) (argGf m c) (j 2)

set_option maxHeartbeats 1000000 in
/-- The program's result, for arguments whose scores are real numbers. -/
theorem final (c : Dev nD) (hg : ∀ e, IsR (argGc m c e)) (hq : ∀ k f, IsR (argWq m c k f)) (hk : ∀ b j h d, IsR (argK m c b j h d)) :
    (dats m 0 c).arrAt 12 (cfgs 0).N = out m c := by
  refine (dats m 0 c).arrAt_eq_of_covers 12 _ (by decide +kernel) fun t _ y => ?_
  have hi1 : (grid0.coords t 1).val < 4 := (grid0.coords t 1).isLt
  obtain ⟨b, hb⟩ : ∃ b : Fin 16, b.val = (grid0.coords t 0).val := ⟨⟨_, (grid0.coords t 0).isLt⟩, rfl⟩
  blk_simp
  rw [after0_12]
  unfold outsAt0
  frame_out
  obtain ⟨y0, r, e, rfl⟩ : ∃ y0 r e, y = ix3 y0 r e := ⟨y 0, y 1, y 2, by ext a; fin_cases a <;> rfl⟩
  obtain rfl : y0 = 0 := Subsingleton.elim _ _
  obtain ⟨i, hi⟩ : ∃ i : Fin 2048, i.val = 512 * (grid0.coords t 1).val + r.val := ⟨⟨_, by omega⟩, rfl⟩
  have hG : out m c (((cfg0.win 12).blk t).view.emb (ix3 0 r e)) = post (argX m c b i) (argO m c b i) (argW m c) (argGc m c) (argWq m c)
      (argK m c b) (argV m c b) (argWo m c) (argGm m c) (argUp m c) (argDn m c) (argGf m c) e := by
    rw [emb_out t b hb r e i hi]; rfl
  refine Eq.trans ?_ hG.symm
  have lu : ∀ (o : ℕ) (q : Fin 8) (hq : o = 512 * q.val) inb (k : Fin 1024) (g : Fin 512),
      View.ld (iblk m c 9 t) (Rect.unit (s := S1024x4096) ![0, o] ![1024, 512] inb) (ix2 k g) = argUp m c k (unit q g) := by
    intro o q hq inb k g
    exact (ld2 (iblk m c 9 t) 0 o inb k g k (unit q g) (Nat.zero_add _).symm (by rw [hq]; rfl)).trans (up_at m c t k _)
  have ld : ∀ (o : ℕ) (q : Fin 8) (hq : o = 512 * q.val) inb (g : Fin 512) (e : Fin 1024),
      View.ld (iblk m c 10 t) (Rect.unit (s := S4096x1024) ![o, 0] ![512, 1024] inb) (ix2 g e) = argDn m c (unit q g) e := by
    intro o q hq inb g e
    exact (ld2 (iblk m c 10 t) o 0 inb g e (unit q g) e (by rw [hq]; rfl) (Nat.zero_add _).symm).trans (dn_at m c t _ e)
  have lk : ∀ (M : Memref sig .tc .vmem S1x1x1024x128 .f32) (hM : M.IsWhole) (h : Fin 4) (o : ℕ) (ho : o = h.val) inb (j : Fin 256) (d : Fin 128),
      View.readAt (Elt Ideal) M.view (⟨![0, 0, o, 0], ![1, 1, 256, 128], ![1, 1, 4, 1], inb⟩ : LoadRect S1x1x1024x128) (hM.unread (iblk m c 5 t)) (ix4 0 0 j d)
        = argK m c b j h d := by
    intro M hM h o ho inb j d
    exact (rows_at M hM (iblk m c 5 t) o (by omega) inb j d).trans (k_at m c t b hb j h d _ (by simp [ho]))
  have lv : ∀ (M : Memref sig .tc .vmem S1x1x1024x128 .f32) (hM : M.IsWhole) (h : Fin 4) (o : ℕ) (ho : o = h.val) inb (j : Fin 256) (d : Fin 128),
      View.readAt (Elt Ideal) M.view (⟨![0, 0, o, 0], ![1, 1, 256, 128], ![1, 1, 4, 1], inb⟩ : LoadRect S1x1x1024x128) (hM.unread (iblk m c 6 t)) (ix4 0 0 j d)
        = argV m c b j h d := by
    intro M hM h o ho inb j d
    exact (rows_at M hM (iblk m c 6 t) o (by omega) inb j d).trans (v_at m c t b hb j h d _ (by simp [ho]))
  refine body_at r _ _ _ _ _ _ _ _ _ _ _ _ _ _ _ _ _ _ _ _ _ _ _ _ _ _ _ _ _ _ _ _ _
    (fun e => x_at m c t b hb r e i hi) (fun e => o_at m c t b hb r e i hi)
    (fun k e => (ld2 (iblk m c 2 t) 0 0 _ k e k ⟨e, by omega⟩ (Nat.zero_add _).symm (Nat.zero_add _).symm).trans (w_at m c t k _))
    (fun k e => (ld2 (iblk m c 2 t) 0 512 _ k e k ⟨512 + e, by omega⟩ (Nat.zero_add _).symm rfl).trans (w_at m c t k _))
    (gc_at m c t) (wq_at m c t)
    (lk _ _ 0 0 rfl _) (lv _ _ 0 0 rfl _) (lk _ _ 1 1 rfl _) (lv _ _ 1 1 rfl _) (lk _ _ 2 2 rfl _) (lv _ _ 2 2 rfl _) (lk _ _ 3 3 rfl _) (lv _ _ 3 3 rfl _)
    (wo_at m c t) (gm_at m c t)
    (lu 0 0 rfl _) (ld 0 0 rfl _) (lu 512 1 rfl _) (ld 512 1 rfl _) (lu 1024 2 rfl _) (ld 1024 2 rfl _) (lu 1536 3 rfl _) (ld 1536 3 rfl _)
    (lu 2048 4 rfl _) (ld 2048 4 rfl _) (lu 2560 5 rfl _) (ld 2560 5 rfl _) (lu 3072 6 rfl _) (ld 3072 6 rfl _) (lu 3584 7 rfl _) (ld 3584 7 rfl _)
    (gf_at m c t) hg hq (hk b) e

end Cert.Kernel2Ideal.Post
end
-- ==== Proof.PostRef.lean ====
module

public import proofs.«01_k».proof.Proof.PostMath
public import proofs.«01_k».proof.Proof.RefValue
public import proofs.«01_k».proof.Proof.Gen.Reference2Ideal.Read
public import Idealize.ShloMosaic.Lib.Pointwise

@[expose] public section
set_option maxRecDepth 16384
noncomputable section

/-! The second half of the layer, as the reference computes it: each stage of its program at one token is the
function of `PostMath` with the same name. -/

namespace Cert.Reference2Ideal.Post

open Cert.Reference2Ideal Cert.Reference2Ideal.Gen Cert.Reference2Ideal.Read Idealize.ShloMosaic Cert.Post
open Cert.ReferenceIdeal.Fox (max_last max_bot_fold)

/-- An array's entries by their coordinates. -/
def vec {a : ℕ} (x : (⟨1, ![a]⟩ : Shape).Idx → EReal) (i : Fin a) : EReal := x (ix1 i)
/-- The same for a matrix. -/
def mat {a b : ℕ} (x : (⟨2, ![a, b]⟩ : Shape).Idx → EReal) (i : Fin a) (j : Fin b) : EReal := x (ix2 i j)
/-- The same for one token's row. -/
def tok {a b c : ℕ} (x : (⟨3, ![a, b, c]⟩ : Shape).Idx → EReal) (i : Fin a) (j : Fin b) (k : Fin c) : EReal := x (ix3 i j k)
/-- The second layer's share of a memory array. -/
def mem {a b c d : ℕ} (x : (⟨5, ![2, a, b, c, d]⟩ : Shape).Idx → EReal) (i : Fin a) (j : Fin b) (h : Fin c) (e : Fin d) : EReal := x (ix5 1 i j h e)

variable (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 x6 : (⟨S2x16x256x4x128, .f32⟩ : BufTy).Contents (Elt Ideal)) (x7 : (⟨S512x1024, .f32⟩ : BufTy).Contents (Elt Ideal))
  (x8 : (⟨S1024, .f32⟩ : BufTy).Contents (Elt Ideal)) (x9 : (⟨S1024x4096, .f32⟩ : BufTy).Contents (Elt Ideal)) (x10 : (⟨S4096x1024, .f32⟩ : BufTy).Contents (Elt Ideal)) (x11 : (⟨S1024, .f32⟩ : BufTy).Contents (Elt Ideal))

/-- The stream after the mixers' projection. -/
theorem stream1_at (b : Fin 16) (i : Fin 2048) (e : Fin 1024) : val_main_v1 (F := Ideal) x0 x1 x2 (ix3 b i e)
    = stream1 (tok x0 b i) (tok x1 b i) (mat x2) e := by
  unfold val_main_v1 val_main_v0
  pointwise
  rfl

/-- The norm before the attention. -/
theorem norm1_at (b : Fin 16) (i : Fin 2048) (e : Fin 1024) : val_main_v14 (F := Ideal) x0 x1 x2 x3 (ix3 b i e)
    = rms (tok (val_main_v1 (F := Ideal) x0 x1 x2) b i) (vec x3) e := by
  unfold val_main_v14 val_main_v13 val_main_v12 val_main_v11 val_main_v10 val_main_v9 val_main_v8 val_main_v7 val_main_cst_1 val_main_v6 val_main_v5 val_main_cst_0 val_main_v4 val_main_v3 val_main_cst val_main_v2
  generalize val_main_v1 (F := Ideal) x0 x1 x2 = y
  pointwise
  rfl

/-- The queries, a head's columns together. -/
theorem query_at (b : Fin 16) (i : Fin 2048) (h : Fin 4) (d : Fin 128) : val_main_v16 (F := Ideal) x0 x1 x2 x3 x4 (ix4 b i h d)
    = lin (tok (val_main_v14 (F := Ideal) x0 x1 x2 x3) b i) (mat x4) (Cert.Fox.col h d) := by
  unfold val_main_v16 val_main_v15
  generalize val_main_v14 (F := Ideal) x0 x1 x2 x3 = y
  pointwise
  exact Finset.sum_congr rfl fun k _ => congrArg (fun a => y (ix3 b i k) * x4 (ix2 k a)) (Fin.ext (by show h.val * 128 + d.val = 128 * h.val + d.val; omega))

/-- The scores of the memory slots. -/
theorem score_at (b : Fin 16) (i : Fin 2048) (h : Fin 4) (j : Fin 256) : val_main_v21 (F := Ideal) x0 x1 x2 x3 x4 x5 (ix4 b h i j)
    = (∑ d, val_main_v16 (F := Ideal) x0 x1 x2 x3 x4 (ix4 b i h d) * mem x5 b j h d) * scale := by
  unfold val_main_v21 val_main_v20 val_main_cst_2 val_main_v19 val_main_v18 val_main_v17
  generalize val_main_v16 (F := Ideal) x0 x1 x2 x3 x4 = y
  pointwise
  rfl

/-- The largest score, as a fold over the slots. -/
theorem max_at (b : Fin 16) (h : Fin 4) (i : Fin 2048) : val_main_v22 (F := Ideal) x0 x1 x2 x3 x4 x5 (ix3 b h i)
    = Finset.univ.fold max (val_main_cst_3 (F := Ideal) (Shape.Idx.first h_S_)) (fun p : Fin 256 => (val_main_v21 (F := Ideal) x0 x1 x2 x3 x4 x5 (ix4 b h i p) : EReal)) := by
  unfold val_main_v22
  generalize val_main_v21 (F := Ideal) x0 x1 x2 x3 x4 x5 = y
  generalize val_main_cst_3 (F := Ideal) = z
  exact max_last _ _ _ _ _ _ _

/-- The fold starts from minus infinity. -/
theorem start_at : val_main_cst_3 (F := Ideal) (Shape.Idx.first h_S_) = Ideal.ofBits FTy.f32 4286578688#32 := rfl

/-- The array of minus infinities the softmax compares with. -/
theorem least_at (i : S16x4x2048.Idx) : val_main_v23 (F := Ideal) i = Ideal.ofBits FTy.f32 4286578688#32 :=
  (val_main_v23_apply i).trans rfl

/-- What the softmax subtracts: the largest score. -/
theorem shift_at (b : Fin 16) (h : Fin 4) (i : Fin 2048) : val_main_v24 (F := Ideal) x0 x1 x2 x3 x4 x5 (ix3 b h i)
    = Finset.univ.fold max ⊥ (fun p : Fin 256 => (val_main_v21 (F := Ideal) x0 x1 x2 x3 x4 x5 (ix4 b h i p) : EReal)) := by
  have e := max_at x0 x1 x2 x3 x4 x5 b h i
  rw [start_at] at e
  have e2 := val_main_v24_apply (F := Ideal) x0 x1 x2 x3 x4 x5 (ix3 b h i)
  rw [least_at] at e2
  generalize val_main_v24 (F := Ideal) x0 x1 x2 x3 x4 x5 (ix3 b h i) = A at e2 ⊢
  generalize val_main_v22 (F := Ideal) x0 x1 x2 x3 x4 x5 (ix3 b h i) = B at e e2
  have e3 := max_bot_fold _ _ e
  exact Eq.trans e2 e3

/-- A softmax weight. -/
theorem weight_at (b : Fin 16) (h : Fin 4) (i : Fin 2048) (p : Fin 256) : val_main_v32 (F := Ideal) x0 x1 x2 x3 x4 x5 (ix4 b h i p)
    = Ideal.div (Ideal.exp (val_main_v21 (F := Ideal) x0 x1 x2 x3 x4 x5 (ix4 b h i p) - val_main_v24 (F := Ideal) x0 x1 x2 x3 x4 x5 (ix3 b h i)))
        (∑ k : Fin 256, Ideal.exp (val_main_v21 (F := Ideal) x0 x1 x2 x3 x4 x5 (ix4 b h i k) - val_main_v24 (F := Ideal) x0 x1 x2 x3 x4 x5 (ix3 b h i))) := by
  unfold val_main_v32 val_main_v31 val_main_v30 val_main_v29 val_main_cst_5 val_main_v28 val_main_v27 val_main_v26 val_main_v25
  generalize val_main_v21 (F := Ideal) x0 x1 x2 x3 x4 x5 = y
  generalize val_main_v24 (F := Ideal) x0 x1 x2 x3 x4 x5 = z
  pointwise

/-- The four heads' weighted values side by side. -/
theorem heads_at (b : Fin 16) (i : Fin 2048) (f : Fin 512) : val_main_v37 (F := Ideal) x0 x1 x2 x3 x4 x5 x6 (ix3 b i f)
    = ∑ j, mem x6 b j (Cert.Fox.head f) (Cert.Fox.lane f) * val_main_v32 (F := Ideal) x0 x1 x2 x3 x4 x5 (ix4 b (Cert.Fox.head f) i j) := by
  unfold val_main_v37 val_main_v36 val_main_v35 val_main_v34 val_main_v33
  generalize val_main_v32 (F := Ideal) x0 x1 x2 x3 x4 x5 = y
  pointwise
  rfl

/-- The stream after the attention. -/
theorem stream2_at (b : Fin 16) (i : Fin 2048) (e : Fin 1024) : val_main_v39 (F := Ideal) x0 x1 x2 x3 x4 x5 x6 x7 (ix3 b i e)
    = val_main_v1 (F := Ideal) x0 x1 x2 (ix3 b i e) + lin (tok (val_main_v37 (F := Ideal) x0 x1 x2 x3 x4 x5 x6) b i) (mat x7) e := by
  unfold val_main_v39 val_main_v38
  generalize val_main_v37 (F := Ideal) x0 x1 x2 x3 x4 x5 x6 = y
  generalize val_main_v1 (F := Ideal) x0 x1 x2 = z
  pointwise
  rfl

/-- The norm before the feed-forward. -/
theorem norm2_at (b : Fin 16) (i : Fin 2048) (e : Fin 1024) : val_main_v52 (F := Ideal) x0 x1 x2 x3 x4 x5 x6 x7 x8 (ix3 b i e)
    = rms (tok (val_main_v39 (F := Ideal) x0 x1 x2 x3 x4 x5 x6 x7) b i) (vec x8) e := by
  unfold val_main_v52 val_main_v51 val_main_v50 val_main_v49 val_main_v48 val_main_v47 val_main_v46 val_main_v45 val_main_cst_8 val_main_v44 val_main_v43 val_main_cst_7 val_main_v42 val_main_v41 val_main_cst_6 val_main_v40
  generalize val_main_v39 (F := Ideal) x0 x1 x2 x3 x4 x5 x6 x7 = y
  pointwise
  rfl

/-- The squared ReLU of the hidden units. -/
theorem act_at (b : Fin 16) (i : Fin 2048) (f : Fin 4096) : val_main_v55 (F := Ideal) x0 x1 x2 x3 x4 x5 x6 x7 x8 x9 (ix3 b i f)
    = act (tok (val_main_v52 (F := Ideal) x0 x1 x2 x3 x4 x5 x6 x7 x8) b i) (mat x9) f := by
  unfold val_main_v55 val_main_v54 val_main_call0_v0 val_main_call0_cst val_main_v53
  generalize val_main_v52 (F := Ideal) x0 x1 x2 x3 x4 x5 x6 x7 x8 = y
  pointwise
  rfl

/-- The stream after the feed-forward. -/
theorem stream3_at (b : Fin 16) (i : Fin 2048) (e : Fin 1024) : val_main_v57 (F := Ideal) x0 x1 x2 x3 x4 x5 x6 x7 x8 x9 x10 (ix3 b i e)
    = val_main_v39 (F := Ideal) x0 x1 x2 x3 x4 x5 x6 x7 (ix3 b i e) + lin (tok (val_main_v55 (F := Ideal) x0 x1 x2 x3 x4 x5 x6 x7 x8 x9) b i) (mat x10) e := by
  unfold val_main_v57 val_main_v56
  generalize val_main_v55 (F := Ideal) x0 x1 x2 x3 x4 x5 x6 x7 x8 x9 = y
  generalize val_main_v39 (F := Ideal) x0 x1 x2 x3 x4 x5 x6 x7 = z
  pointwise
  rfl

/-- The final norm. -/
theorem norm3_at (b : Fin 16) (i : Fin 2048) (e : Fin 1024) : val_main_v70 (F := Ideal) x0 x1 x2 x3 x4 x5 x6 x7 x8 x9 x10 x11 (ix3 b i e)
    = rms (tok (val_main_v57 (F := Ideal) x0 x1 x2 x3 x4 x5 x6 x7 x8 x9 x10) b i) (vec x11) e := by
  unfold val_main_v70 val_main_v69 val_main_v68 val_main_v67 val_main_v66 val_main_v65 val_main_v64 val_main_v63 val_main_cst_11 val_main_v62 val_main_v61 val_main_cst_10 val_main_v60 val_main_v59 val_main_cst_9 val_main_v58
  generalize val_main_v57 (F := Ideal) x0 x1 x2 x3 x4 x5 x6 x7 x8 x9 x10 = y
  pointwise
  rfl

/-- The reference computes `post` of its arguments' entries, token by token. -/
theorem ref_at (b : Fin 16) (i : Fin 2048) (e : Fin 1024) : val_main_v70 (F := Ideal) x0 x1 x2 x3 x4 x5 x6 x7 x8 x9 x10 x11 (ix3 b i e)
    = post (tok x0 b i) (tok x1 b i) (mat x2) (vec x3) (mat x4) (mem x5 b) (mem x6 b) (mat x7) (vec x8) (mat x9) (mat x10) (vec x11) e := by
  have e1 : tok (val_main_v1 (F := Ideal) x0 x1 x2) b i = stream1 (tok x0 b i) (tok x1 b i) (mat x2) := funext (stream1_at x0 x1 x2 b i)
  have e2 : tok (val_main_v14 (F := Ideal) x0 x1 x2 x3) b i = rms (tok (val_main_v1 (F := Ideal) x0 x1 x2) b i) (vec x3) := funext (norm1_at x0 x1 x2 x3 b i)
  have e3 := query_at x0 x1 x2 x3 x4 b i
  have e4 := fun h j => score_at x0 x1 x2 x3 x4 x5 b i h j
  have e5 := fun h => shift_at x0 x1 x2 x3 x4 x5 b h i
  have e6 := fun h p => weight_at x0 x1 x2 x3 x4 x5 b h i p
  have e7 := heads_at x0 x1 x2 x3 x4 x5 x6 b i
  have e8 := stream2_at x0 x1 x2 x3 x4 x5 x6 x7 b i
  have e9 : tok (val_main_v52 (F := Ideal) x0 x1 x2 x3 x4 x5 x6 x7 x8) b i = rms (tok (val_main_v39 (F := Ideal) x0 x1 x2 x3 x4 x5 x6 x7) b i) (vec x8) := funext (norm2_at x0 x1 x2 x3 x4 x5 x6 x7 x8 b i)
  have e10 : tok (val_main_v55 (F := Ideal) x0 x1 x2 x3 x4 x5 x6 x7 x8 x9) b i = act (tok (val_main_v52 (F := Ideal) x0 x1 x2 x3 x4 x5 x6 x7 x8) b i) (mat x9) := funext (act_at x0 x1 x2 x3 x4 x5 x6 x7 x8 x9 b i)
  have e11 := stream3_at x0 x1 x2 x3 x4 x5 x6 x7 x8 x9 x10 b i
  have e12 := norm3_at x0 x1 x2 x3 x4 x5 x6 x7 x8 x9 x10 x11 b i e
  generalize val_main_v70 (F := Ideal) x0 x1 x2 x3 x4 x5 x6 x7 x8 x9 x10 x11 = y12 at *
  generalize val_main_v57 (F := Ideal) x0 x1 x2 x3 x4 x5 x6 x7 x8 x9 x10 = y11 at *
  generalize val_main_v55 (F := Ideal) x0 x1 x2 x3 x4 x5 x6 x7 x8 x9 = y10 at *
  generalize val_main_v52 (F := Ideal) x0 x1 x2 x3 x4 x5 x6 x7 x8 = y9 at *
  generalize val_main_v39 (F := Ideal) x0 x1 x2 x3 x4 x5 x6 x7 = y8 at *
  generalize val_main_v37 (F := Ideal) x0 x1 x2 x3 x4 x5 x6 = y7 at *
  generalize val_main_v32 (F := Ideal) x0 x1 x2 x3 x4 x5 = y6 at *
  generalize val_main_v24 (F := Ideal) x0 x1 x2 x3 x4 x5 = y5 at *
  generalize val_main_v21 (F := Ideal) x0 x1 x2 x3 x4 x5 = y4 at *
  generalize val_main_v16 (F := Ideal) x0 x1 x2 x3 x4 = y3 at *
  generalize val_main_v14 (F := Ideal) x0 x1 x2 x3 = y2 at *
  generalize val_main_v1 (F := Ideal) x0 x1 x2 = y1 at *
  have f4 : ∀ h j, y4 (ix4 b h i j) = score (lin (rms (tok y1 b i) (vec x3)) (mat x4)) (mem x5 b) h j := fun h j => by
    rw [e4, ← e2]
    unfold score
    exact congrArg (fun a : EReal => a * scale) (Finset.sum_congr rfl fun d _ => congrArg (fun a : EReal => a * mem x5 b j h d) (e3 h d))
  have f7 : tok y7 b i = heads (lin (rms (tok y1 b i) (vec x3)) (mat x4)) (mem x5 b) (mem x6 b) := funext fun f => by
    refine (e7 f).trans ?_
    unfold heads soften
    refine Finset.sum_congr rfl fun j _ => congrArg (fun a : EReal => mem x6 b j (Cert.Fox.head f) (Cert.Fox.lane f) * a) ?_
    rw [e6, e5]
    simp only [f4]
  have f8 : tok y8 b i = stream2 (tok y1 b i) (vec x3) (mat x4) (mem x5 b) (mem x6 b) (mat x7) := funext fun a => by
    refine (e8 a).trans ?_
    rw [f7]
    rfl
  have f11 : tok y11 b i = stream3 (tok y8 b i) (vec x8) (mat x9) (mat x10) := funext fun a => by
    refine (e11 a).trans ?_
    rw [e10, e9]
    rfl
  rw [e12, f11, f8, e1]
  rfl

end Cert.Reference2Ideal.Post
end
-- ==== Proof.Post3Body.lean ====
module

public import proofs.«01_k».proof.Proof.PostBody
public import proofs.«01_k».proof.Proof.Gen.Kernel3Ideal.Skeleton
public import Idealize.ShloMosaic.Lib.Pointwise

@[expose] public section
set_option maxRecDepth 16384
noncomputable section

/-! What the first layer's body computes for one token: as in `PostBody`, with two mixers' outputs and without the final norm. -/

namespace Cert.Kernel3Ideal.Post

open Cert.Kernel3Ideal Cert.Kernel3Ideal.Gen Idealize.ShloMosaic Cert.Post
open Cert.Kernel2Ideal.Post (head_sum heads_split chunk_at)
open Cert.Fox (neg_inf col head lane)

section Row
variable (r : Fin 512)

/-- Two mixers' outputs, each times its half of the projection, in two chunks of 512 columns put side by side. -/
theorem stream1_at (v0 : Vec Ideal S1x512x1024 .f32) (v2 v5 : Vec Ideal S1x512x512 .bf16) (v9 v14 v20 v25 : Vec Ideal S512x512 .bf16)
    {x : Fin 1024 → EReal} {oa ob : Fin 512 → EReal} {w : Fin 1024 → Fin 1024 → EReal} (hx : ∀ e, v0 (ix3 0 r e) = x e)
    (hoa : ∀ e, v2 (ix3 0 r e) = oa e) (hob : ∀ e, v5 (ix3 0 r e) = ob e)
    (h9 : ∀ k e : Fin 512, v9 (ix2 k e) = w ⟨k, by omega⟩ ⟨e, by omega⟩) (h14 : ∀ k e : Fin 512, v14 (ix2 k e) = w ⟨512 + k, by omega⟩ ⟨e, by omega⟩)
    (h20 : ∀ k e : Fin 512, v20 (ix2 k e) = w ⟨k, by omega⟩ ⟨512 + e, by omega⟩)
    (h25 : ∀ k e : Fin 512, v25 (ix2 k e) = w ⟨512 + k, by omega⟩ ⟨512 + e, by omega⟩) (e : Fin 1024) :
    k0_pay2 (F := Ideal) v0 v2 v5 v9 v14 v20 v25 (ix2 r e) = stream1 x (cat oa ob) w e := by
  unfold k0_pay2
  pointwise
  unfold stream1
  rw [lin_cat]
  split
  · simp only [hx, hoa, hob, h9, h14]
  · have he : (⟨512 + (e.val - 512), by omega⟩ : Fin 1024) = e := Fin.ext (by show 512 + (e.val - 512) = e.val; omega)
    simp only [hx, hoa, hob, h20, h25, he]

/-- The norm, the query's projection and its scale. -/
theorem query_at (y : FVec Ideal S512x1024 .f32) (v31 : Vec Ideal S1x1024 .f32) (v46 : Vec Ideal S1024x512 .bf16) {z g : Fin 1024 → EReal}
    {wq : Fin 1024 → Fin 512 → EReal} (hz : ∀ e, y (ix2 r e) = z e) (hg : ∀ e, v31 (ix2 0 e) = g e) (hw : ∀ k f, v46 (ix2 k f) = wq k f) (f : Fin 512) :
    k0_pay4 (F := Ideal) y (k0_pay3 v31) v46 (ix2 r f) = lin (rms z g) wq f * scale := by
  unfold k0_pay4 k0_pay3
  pointwise
  simp only [hz, hg, hw]
  rfl

variable {q : Fin 512 → EReal} {k v : Fin 256 → Fin 4 → Fin 128 → EReal}

/-- The first head. -/
theorem head0_at (y : FVec Ideal S512x1024 .f32) (g : FVec Ideal S1x1024 .f32) (v46 : Vec Ideal S1024x512 .bf16) (kk vv : Vec Ideal S1x1x256x128 .f32)
    (hq : ∀ f, k0_pay4 (F := Ideal) y g v46 (ix2 r f) = q f * scale) (hk : ∀ j d, kk (ix4 0 0 j d) = k j 0 d) (hv : ∀ j d, vv (ix4 0 0 j d) = v j 0 d)
    (d : Fin 128) : k0_pay5 (F := Ideal) y g v46 kk vv (ix2 r d) = soften' (score q k 0) (fun j => v j 0 d) := by
  unfold k0_pay5
  generalize k0_pay4 (F := Ideal) y g v46 = y at *
  have hS := fun j => head_sum r kk 0 hq hk j (fun d => ⟨d.val, by omega⟩) (fun d => (Nat.zero_add _).symm)
  pointwise
  simp only [hS, hv, neg_inf]
  rfl

/-- The second head. -/
theorem head1_at (y : FVec Ideal S512x1024 .f32) (g : FVec Ideal S1x1024 .f32) (v46 : Vec Ideal S1024x512 .bf16) (kk vv : Vec Ideal S1x1x256x128 .f32)
    (hq : ∀ f, k0_pay4 (F := Ideal) y g v46 (ix2 r f) = q f * scale) (hk : ∀ j d, kk (ix4 0 0 j d) = k j 1 d) (hv : ∀ j d, vv (ix4 0 0 j d) = v j 1 d)
    (d : Fin 128) : k0_pay7 (F := Ideal) (k0_pay6 y g v46) kk vv (ix2 r d) = soften' (score q k 1) (fun j => v j 1 d) := by
  unfold k0_pay7 k0_pay6
  generalize k0_pay4 (F := Ideal) y g v46 = y at *
  have hS := fun j => head_sum r kk 1 hq hk j (fun d => ⟨128 + d.val, by omega⟩) (fun d => rfl)
  pointwise
  simp only [hS, hv, neg_inf]
  rfl

/-- The third head's undivided sum and its divisor, the last head, the four heads side by side, and the projection back. -/
theorem stream2_at (x : FVec Ideal S512x1024 .f32) (y : FVec Ideal S512x512 .bf16) (v71 v91 : FVec Ideal S512x128 .bf16)
    (k2 w2 k3 w3 : Vec Ideal S1x1x256x128 .f32) (v133 : Vec Ideal S512x1024 .bf16) {x1 : Fin 1024 → EReal} {wo : Fin 512 → Fin 1024 → EReal}
    (hx : ∀ e, x (ix2 r e) = x1 e) (h0 : ∀ d, v71 (ix2 r d) = soften' (score q k 0) (fun j => v j 0 d))
    (h1 : ∀ d, v91 (ix2 r d) = soften' (score q k 1) (fun j => v j 1 d)) (hq : ∀ f, y (ix2 r f) = q f * scale)
    (hk2 : ∀ j d, k2 (ix4 0 0 j d) = k j 2 d) (hv2 : ∀ j d, w2 (ix4 0 0 j d) = v j 2 d)
    (hk3 : ∀ j d, k3 (ix4 0 0 j d) = k j 3 d) (hv3 : ∀ j d, w3 (ix4 0 0 j d) = v j 3 d)
    (hw : ∀ f e, v133 (ix2 f e) = wo f e) (hs : ∀ h j, IsR (score q k h j)) (e : Fin 1024) :
    k0_pay11 (F := Ideal) x y v71 v91 (k0_pay9 y k2 w2) (k0_pay10 y k2) k3 w3 v133 (ix2 r e) = x1 e + lin (heads q k v) wo e := by
  unfold k0_pay11 k0_pay10 k0_pay9 k0_pay8
  have hS2 := fun j => head_sum r k2 2 hq hk2 j (fun d => ⟨256 + d.val, by omega⟩) (fun d => rfl)
  have hS3 := fun j => head_sum r k3 3 hq hk3 j (fun d => ⟨384 + d.val, by omega⟩) (fun d => rfl)
  pointwise
  simp only [hS2, hS3, hv2, hv3, neg_inf, hx, h0, h1, hw]
  exact congrArg (x1 e + ·) (Finset.sum_congr rfl fun f _ => congrArg (· * wo f e) (heads_split hs f))

/-- The norm before the feed-forward. -/
theorem norm2_at (x : FVec Ideal S512x1024 .f32) (y : FVec Ideal S512x512 .bf16) (v71 v91 : FVec Ideal S512x128 .bf16) (p l : FVec Ideal S512x128 .f32)
    (k3 w3 : Vec Ideal S1x1x256x128 .f32) (v133 : Vec Ideal S512x1024 .bf16) (v137 : Vec Ideal S1x1024 .f32) {z g : Fin 1024 → EReal}
    (hz : ∀ e, k0_pay11 (F := Ideal) x y v71 v91 p l k3 w3 v133 (ix2 r e) = z e) (hg : ∀ e, v137 (ix2 0 e) = g e) (e : Fin 1024) :
    k0_pay14 (F := Ideal) (k0_pay12 x y v71 v91 p l k3 w3 v133) (k0_pay13 v137) (ix2 r e) = rms z g e := by
  unfold k0_pay14 k0_pay13 k0_pay12
  generalize k0_pay11 (F := Ideal) x y v71 v91 p l k3 w3 v133 = y at *
  pointwise
  simp only [hz, hg]
  rfl

variable {n z : Fin 1024 → EReal} {up : Fin 1024 → Fin 4096 → EReal} {dn : Fin 4096 → Fin 1024 → EReal}

/-- The first three chunks of hidden units. -/
theorem mlp2_at (a v148 v149 : FVec Ideal S512x1024 .f32) (u0 u1 u2 : Vec Ideal S1024x512 .bf16)
    (w0 w1 w2 : Vec Ideal S512x1024 .bf16) (hn : ∀ e, k0_pay14 (F := Ideal) v148 v149 (ix2 r e) = n e)
    (hu0 : ∀ k g, u0 (ix2 k g) = up k (unit 0 g)) (hw0 : ∀ g e, w0 (ix2 g e) = dn (unit 0 g) e)
    (hu1 : ∀ k g, u1 (ix2 k g) = up k (unit 1 g)) (hw1 : ∀ g e, w1 (ix2 g e) = dn (unit 1 g) e)
    (hu2 : ∀ k g, u2 (ix2 k g) = up k (unit 2 g)) (hw2 : ∀ g e, w2 (ix2 g e) = dn (unit 2 g) e) (e : Fin 1024) :
    k0_pay15 (F := Ideal) a v148 v149 u0 w0 u1 w1 u2 w2 (ix2 r e)
      = a (ix2 r e) + part (act n up) dn 0 e + part (act n up) dn 1 e + part (act n up) dn 2 e := by
  unfold k0_pay15
  generalize k0_pay14 (F := Ideal) v148 v149 = y at *
  have h0 := chunk_at r u0 w0 0 hn hu0 hw0 e
  have h1 := chunk_at r u1 w1 1 hn hu1 hw1 e
  have h2 := chunk_at r u2 w2 2 hn hu2 hw2 e
  pointwise
  rw [← h0, ← h1, ← h2]

/-- The next three. -/
theorem mlp5_at (y : FVec Ideal S512x1024 .bf16) (a : FVec Ideal S512x1024 .f32) (u3 u4 u5 : Vec Ideal S1024x512 .bf16)
    (w3 w4 w5 : Vec Ideal S512x1024 .bf16) (hn : ∀ e, y (ix2 r e) = n e)
    (hu3 : ∀ k g, u3 (ix2 k g) = up k (unit 3 g)) (hw3 : ∀ g e, w3 (ix2 g e) = dn (unit 3 g) e)
    (hu4 : ∀ k g, u4 (ix2 k g) = up k (unit 4 g)) (hw4 : ∀ g e, w4 (ix2 g e) = dn (unit 4 g) e)
    (hu5 : ∀ k g, u5 (ix2 k g) = up k (unit 5 g)) (hw5 : ∀ g e, w5 (ix2 g e) = dn (unit 5 g) e) (e : Fin 1024) :
    k0_pay17 (F := Ideal) y a (k0_pay16 u3) w3 u4 w4 u5 w5 (ix2 r e)
      = a (ix2 r e) + part (act n up) dn 3 e + part (act n up) dn 4 e + part (act n up) dn 5 e := by
  unfold k0_pay17 k0_pay16
  have h0 := chunk_at r u3 w3 3 hn hu3 hw3 e
  have h1 := chunk_at r u4 w4 4 hn hu4 hw4 e
  have h2 := chunk_at r u5 w5 5 hn hu5 hw5 e
  pointwise
  rw [← h0, ← h1, ← h2]

/-- The last two. -/
theorem last_at (y : FVec Ideal S512x1024 .bf16) (a : FVec Ideal S512x1024 .f32) (u6 u7 : Vec Ideal S1024x512 .bf16)
    (w6 w7 : Vec Ideal S512x1024 .bf16) (hn : ∀ e, y (ix2 r e) = n e)
    (hu6 : ∀ k g, u6 (ix2 k g) = up k (unit 6 g)) (hw6 : ∀ g e, w6 (ix2 g e) = dn (unit 6 g) e)
    (hu7 : ∀ k g, u7 (ix2 k g) = up k (unit 7 g)) (hw7 : ∀ g e, w7 (ix2 g e) = dn (unit 7 g) e) (e : Fin 1024) :
    k0_pay1 (F := Ideal) y a (k0_pay18 y u6) w6 u7 w7 (ix3 0 r e) = a (ix2 r e) + part (act n up) dn 6 e + part (act n up) dn 7 e := by
  unfold k0_pay1 k0_pay18
  have h0 := chunk_at r u6 w6 6 hn hu6 hw6 e
  have h1 := chunk_at r u7 w7 7 hn hu7 hw7 e
  pointwise
  rw [← h0, ← h1]

/-- The whole body at one token: from what it loads to what it stores. -/
theorem body_at (v0 : Vec Ideal S1x512x1024 .f32) (v2 v5 : Vec Ideal S1x512x512 .bf16) (v9 v14 v20 v25 : Vec Ideal S512x512 .bf16) (v31 : Vec Ideal S1x1024 .f32)
    (v46 : Vec Ideal S1024x512 .bf16) (k0 w0 k1 w1 k2 w2 k3 w3 : Vec Ideal S1x1x256x128 .f32) (v133 : Vec Ideal S512x1024 .bf16)
    (v137 : Vec Ideal S1x1024 .f32) (u0 u1 u2 u3 u4 u5 u6 u7 : Vec Ideal S1024x512 .bf16) (d0 d1 d2 d3 d4 d5 d6 d7 : Vec Ideal S512x1024 .bf16)
    {x gc gm : Fin 1024 → EReal} {oa ob : Fin 512 → EReal} {w : Fin 1024 → Fin 1024 → EReal} {wq : Fin 1024 → Fin 512 → EReal}
    {wo : Fin 512 → Fin 1024 → EReal}
    (hx : ∀ e, v0 (ix3 0 r e) = x e) (hoa : ∀ e, v2 (ix3 0 r e) = oa e) (hob : ∀ e, v5 (ix3 0 r e) = ob e)
    (h9 : ∀ k e : Fin 512, v9 (ix2 k e) = w ⟨k, by omega⟩ ⟨e, by omega⟩) (h14 : ∀ k e : Fin 512, v14 (ix2 k e) = w ⟨512 + k, by omega⟩ ⟨e, by omega⟩)
    (h20 : ∀ k e : Fin 512, v20 (ix2 k e) = w ⟨k, by omega⟩ ⟨512 + e, by omega⟩)
    (h25 : ∀ k e : Fin 512, v25 (ix2 k e) = w ⟨512 + k, by omega⟩ ⟨512 + e, by omega⟩)
    (hgc : ∀ e, v31 (ix2 0 e) = gc e) (hwq : ∀ k f, v46 (ix2 k f) = wq k f)
    (hk0 : ∀ j d, k0 (ix4 0 0 j d) = k j 0 d) (hw0 : ∀ j d, w0 (ix4 0 0 j d) = v j 0 d)
    (hk1 : ∀ j d, k1 (ix4 0 0 j d) = k j 1 d) (hw1 : ∀ j d, w1 (ix4 0 0 j d) = v j 1 d)
    (hk2 : ∀ j d, k2 (ix4 0 0 j d) = k j 2 d) (hw2 : ∀ j d, w2 (ix4 0 0 j d) = v j 2 d)
    (hk3 : ∀ j d, k3 (ix4 0 0 j d) = k j 3 d) (hw3 : ∀ j d, w3 (ix4 0 0 j d) = v j 3 d)
    (hwo : ∀ f e, v133 (ix2 f e) = wo f e) (hgm : ∀ e, v137 (ix2 0 e) = gm e)
    (hu0 : ∀ k g, u0 (ix2 k g) = up k (unit 0 g)) (hd0 : ∀ g e, d0 (ix2 g e) = dn (unit 0 g) e)
    (hu1 : ∀ k g, u1 (ix2 k g) = up k (unit 1 g)) (hd1 : ∀ g e, d1 (ix2 g e) = dn (unit 1 g) e)
    (hu2 : ∀ k g, u2 (ix2 k g) = up k (unit 2 g)) (hd2 : ∀ g e, d2 (ix2 g e) = dn (unit 2 g) e)
    (hu3 : ∀ k g, u3 (ix2 k g) = up k (unit 3 g)) (hd3 : ∀ g e, d3 (ix2 g e) = dn (unit 3 g) e)
    (hu4 : ∀ k g, u4 (ix2 k g) = up k (unit 4 g)) (hd4 : ∀ g e, d4 (ix2 g e) = dn (unit 4 g) e)
    (hu5 : ∀ k g, u5 (ix2 k g) = up k (unit 5 g)) (hd5 : ∀ g e, d5 (ix2 g e) = dn (unit 5 g) e)
    (hu6 : ∀ k g, u6 (ix2 k g) = up k (unit 6 g)) (hd6 : ∀ g e, d6 (ix2 g e) = dn (unit 6 g) e)
    (hu7 : ∀ k g, u7 (ix2 k g) = up k (unit 7 g)) (hd7 : ∀ g e, d7 (ix2 g e) = dn (unit 7 g) e)
    (rg : ∀ e, IsR (gc e))
    (rq : ∀ k f, IsR (wq k f)) (rk : ∀ j h d, IsR (k j h d)) (e : Fin 1024) :
    k0_pay1 (F := Ideal) (k0_pay14 (k0_pay12 (k0_pay2 v0 v2 v5 v9 v14 v20 v25) (k0_pay4 (k0_pay2 v0 v2 v5 v9 v14 v20 v25) (k0_pay3 v31) v46) (k0_pay5 (k0_pay2 v0 v2 v5 v9 v14 v20 v25) (k0_pay3 v31) v46 k0 w0) (k0_pay7 (k0_pay6 (k0_pay2 v0 v2 v5 v9 v14 v20 v25) (k0_pay3 v31) v46) k1 w1) (k0_pay9 (k0_pay4 (k0_pay2 v0 v2 v5 v9 v14 v20 v25) (k0_pay3 v31) v46) k2 w2) (k0_pay10 (k0_pay4 (k0_pay2 v0 v2 v5 v9 v14 v20 v25) (k0_pay3 v31) v46) k2) k3 w3 v133) (k0_pay13 v137)) (k0_pay17 (k0_pay14 (k0_pay12 (k0_pay2 v0 v2 v5 v9 v14 v20 v25) (k0_pay4 (k0_pay2 v0 v2 v5 v9 v14 v20 v25) (k0_pay3 v31) v46) (k0_pay5 (k0_pay2 v0 v2 v5 v9 v14 v20 v25) (k0_pay3 v31) v46 k0 w0) (k0_pay7 (k0_pay6 (k0_pay2 v0 v2 v5 v9 v14 v20 v25) (k0_pay3 v31) v46) k1 w1) (k0_pay9 (k0_pay4 (k0_pay2 v0 v2 v5 v9 v14 v20 v25) (k0_pay3 v31) v46) k2 w2) (k0_pay10 (k0_pay4 (k0_pay2 v0 v2 v5 v9 v14 v20 v25) (k0_pay3 v31) v46) k2) k3 w3 v133) (k0_pay13 v137)) (k0_pay15 (k0_pay11 (k0_pay2 v0 v2 v5 v9 v14 v20 v25) (k0_pay4 (k0_pay2 v0 v2 v5 v9 v14 v20 v25) (k0_pay3 v31) v46) (k0_pay5 (k0_pay2 v0 v2 v5 v9 v14 v20 v25) (k0_pay3 v31) v46 k0 w0) (k0_pay7 (k0_pay6 (k0_pay2 v0 v2 v5 v9 v14 v20 v25) (k0_pay3 v31) v46) k1 w1) (k0_pay9 (k0_pay4 (k0_pay2 v0 v2 v5 v9 v14 v20 v25) (k0_pay3 v31) v46) k2 w2) (k0_pay10 (k0_pay4 (k0_pay2 v0 v2 v5 v9 v14 v20 v25) (k0_pay3 v31) v46) k2) k3 w3 v133) (k0_pay12 (k0_pay2 v0 v2 v5 v9 v14 v20 v25) (k0_pay4 (k0_pay2 v0 v2 v5 v9 v14 v20 v25) (k0_pay3 v31) v46) (k0_pay5 (k0_pay2 v0 v2 v5 v9 v14 v20 v25) (k0_pay3 v31) v46 k0 w0) (k0_pay7 (k0_pay6 (k0_pay2 v0 v2 v5 v9 v14 v20 v25) (k0_pay3 v31) v46) k1 w1) (k0_pay9 (k0_pay4 (k0_pay2 v0 v2 v5 v9 v14 v20 v25) (k0_pay3 v31) v46) k2 w2) (k0_pay10 (k0_pay4 (k0_pay2 v0 v2 v5 v9 v14 v20 v25) (k0_pay3 v31) v46) k2) k3 w3 v133) (k0_pay13 v137) u0 d0 u1 d1 u2 d2) (k0_pay16 u3) d3 u4 d4 u5 d5) (k0_pay18 (k0_pay14 (k0_pay12 (k0_pay2 v0 v2 v5 v9 v14 v20 v25) (k0_pay4 (k0_pay2 v0 v2 v5 v9 v14 v20 v25) (k0_pay3 v31) v46) (k0_pay5 (k0_pay2 v0 v2 v5 v9 v14 v20 v25) (k0_pay3 v31) v46 k0 w0) (k0_pay7 (k0_pay6 (k0_pay2 v0 v2 v5 v9 v14 v20 v25) (k0_pay3 v31) v46) k1 w1) (k0_pay9 (k0_pay4 (k0_pay2 v0 v2 v5 v9 v14 v20 v25) (k0_pay3 v31) v46) k2 w2) (k0_pay10 (k0_pay4 (k0_pay2 v0 v2 v5 v9 v14 v20 v25) (k0_pay3 v31) v46) k2) k3 w3 v133) (k0_pay13 v137)) u6) d6 u7 d7 (ix3 0 r e)
      = open_post x (cat oa ob) w gc wq k v wo gm up dn e := by
  have a1 := stream1_at r v0 v2 v5 v9 v14 v20 v25 hx hoa hob h9 h14 h20 h25
  have a3 := query_at r _ v31 v46 a1 hgc hwq
  have rs : ∀ h j, IsR (score (lin (rms (stream1 x (cat oa ob) w) gc) wq) k h j) := fun h j => IsR.score (fun f => IsR.lin (IsR.rms _ rg) rq f) rk h j
  have b0 := head0_at r _ _ _ k0 w0 a3 hk0 hw0
  have b1 := head1_at r _ _ _ k1 w1 a3 hk1 hw1
  have c1 := stream2_at r _ _ _ _ k2 w2 k3 w3 v133 a1 b0 b1 a3 hk2 hw2 hk3 hw3 hwo rs
  have c2 := norm2_at r _ _ _ _ _ _ k3 w3 v133 v137 c1 hgm
  rw [last_at r _ _ u6 u7 d6 d7 c2 hu6 hd6 hu7 hd7, mlp5_at r _ _ u3 u4 u5 d3 d4 d5 c2 hu3 hd3 hu4 hd4 hu5 hd5,
    mlp2_at r _ _ _ u0 u1 u2 d0 d1 d2 c2 hu0 hd0 hu1 hd1 hu2 hd2, c1, chunks]
  rfl

end Row
end Cert.Kernel3Ideal.Post
end
-- ==== Proof.Post3Kernel.lean ====
module

public import proofs.«01_k».proof.Proof.Post3Body
public import proofs.«01_k».proof.Proof.PostKernel
public import proofs.«01_k».proof.Proof.Gen.Kernel3Ideal.Frame
public import Idealize.ShloMosaic.Lib.Pipeline.ValueKit
public import Idealize.ShloMosaic.Lib.Pointwise
public import Idealize.ShloMosaic.Lib.WholeRead

@[expose] public section

set_option maxRecDepth 16384

noncomputable section

/-! What the kernel's program leaves in its result: `open_post` of its arguments, token by token. -/

namespace Cert.Kernel3Ideal.Post

open Cert.Kernel3Ideal Cert.Kernel3Ideal.Gen Idealize.ShloMosaic Idealize.ShloMosaic.TcCoe Idealize.SL.Sem
open Idealize.ShloMosaic.Pipeline (Dat)
open Cert.Post
open Cert.Kernel2Ideal.Post (rows_at ld2)
open Cert.Fox (col head lane)

variable (m : (ℓ : Loc nD τ sig) → Buf (Elt Ideal) ℓ)

/-- Which block of each array a grid point works on. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![0, 0] ∧ win0_4.index t = ![0, 0] ∧ win0_5.index t = ![0, 0] ∧ win0_6.index t = ![0, 0]
    ∧ win0_7.index t = ![0, (grid0.coords t 0).val, 0, 0] ∧ win0_8.index t = ![0, (grid0.coords t 0).val, 0, 0]
    ∧ win0_9.index t = ![0, 0] ∧ win0_10.index t = ![0, 0] ∧ win0_11.index t = ![0, 0] ∧ win0_12.index t = ![0, 0]
    ∧ win0_13.index t = ![(grid0.coords t 0).val, (grid0.coords t 1).val, 0] :=
  (by decide +kernel : ∀ t : Fin grid0.N, _)

/-- The program's arguments by their coordinates. -/
def argX (c : Dev nD) (b : Fin 16) (i : Fin 2048) (e : Fin 1024) : EReal := m ((c : Thread nD τ).loc main_arg0) (ix3 b i e)
/-- The first mixer's output. -/
def argA (c : Dev nD) (b : Fin 16) (i : Fin 2048) (e : Fin 512) : EReal := m ((c : Thread nD τ).loc main_arg1) (ix3 b i e)
/-- The second mixer's output. -/
def argB (c : Dev nD) (b : Fin 16) (i : Fin 2048) (e : Fin 512) : EReal := m ((c : Thread nD τ).loc main_arg2) (ix3 b i e)
/-- The projection's weights. -/
def argW (c : Dev nD) (k e : Fin 1024) : EReal := m ((c : Thread nD τ).loc main_arg3) (ix2 k e)
/-- The gain before the attention. -/
def argGc (c : Dev nD) (e : Fin 1024) : EReal := m ((c : Thread nD τ).loc main_arg4) (ix1 e)
/-- The queries' weights. -/
def argWq (c : Dev nD) (k : Fin 1024) (f : Fin 512) : EReal := m ((c : Thread nD τ).loc main_arg5) (ix2 k f)
/-- The layer's memory keys. -/
def argK (c : Dev nD) (b : Fin 16) (j : Fin 256) (h : Fin 4) (d : Fin 128) : EReal := m ((c : Thread nD τ).loc main_arg6) (ix5 0 b j h d)
/-- The layer's memory values. -/
def argV (c : Dev nD) (b : Fin 16) (j : Fin 256) (h : Fin 4) (d : Fin 128) : EReal := m ((c : Thread nD τ).loc main_arg7) (ix5 0 b j h d)
/-- The weights after the attention. -/
def argWo (c : Dev nD) (f : Fin 512) (e : Fin 1024) : EReal := m ((c : Thread nD τ).loc main_arg8) (ix2 f e)
/-- The gain before the feed-forward. -/
def argGm (c : Dev nD) (e : Fin 1024) : EReal := m ((c : Thread nD τ).loc main_arg9) (ix1 e)
/-- The feed-forward's first weights. -/
def argUp (c : Dev nD) (k : Fin 1024) (f : Fin 4096) : EReal := m ((c : Thread nD τ).loc main_arg10) (ix2 k f)
/-- The feed-forward's second weights. -/
def argDn (c : Dev nD) (f : Fin 4096) (e : Fin 1024) : EReal := m ((c : Thread nD τ).loc main_arg11) (ix2 f e)

section Block
variable (c : Dev nD) (t : Fin cfg0.N)

/-- The first mixer's half of the projection. -/
theorem wa_at (k : Fin 512) (e : Fin 1024) : iblk m c 3 t (ix2 k e) = argW m c ⟨k, by omega⟩ e := by
  have h : ((cfg0.win 3).blk t).view.emb (ix2 k e) = ix2 k e := by blk_ext [idx t]
  unfold iblk
  show V m c main_v3 (((cfg0.win 3).blk t).view.emb (ix2 k e)) = _
  rw [h]; unfold argW; entry_read; pointwise

/-- The second mixer's half of the projection. -/
theorem wb_at (k : Fin 512) (e : Fin 1024) : iblk m c 4 t (ix2 k e) = argW m c ⟨512 + k, by omega⟩ e := by
  have h : ((cfg0.win 4).blk t).view.emb (ix2 k e) = ix2 k e := by blk_ext [idx t]
  unfold iblk
  show V m c main_v4 (((cfg0.win 4).blk t).view.emb (ix2 k e)) = _
  rw [h]; unfold argW; entry_read; pointwise

/-- The gain before the attention. -/
theorem gc_at (e : Fin 1024) : iblk m c 5 t (ix2 0 e) = argGc m c e := by
  have h : ((cfg0.win 5).blk t).view.emb (ix2 0 e) = ix2 0 e := by blk_ext [idx t]
  unfold iblk
  show V m c main_v11 (((cfg0.win 5).blk t).view.emb (ix2 0 e)) = _
  rw [h]; unfold argGc; entry_read; pointwise

/-- The queries' weights. -/
theorem wq_at (k : Fin 1024) (f : Fin 512) : iblk m c 6 t (ix2 k f) = argWq m c k f := by
  have h : ((cfg0.win 6).blk t).view.emb (ix2 k f) = ix2 k f := by blk_ext [idx t]
  unfold iblk
  show V m c main_v5 (((cfg0.win 6).blk t).view.emb (ix2 k f)) = _
  rw [h]; unfold argWq; entry_read; pointwise

/-- The weights after the attention. -/
theorem wo_at (f : Fin 512) (e : Fin 1024) : iblk m c 9 t (ix2 f e) = argWo m c f e := by
  have h : ((cfg0.win 9).blk t).view.emb (ix2 f e) = ix2 f e := by blk_ext [idx t]
  unfold iblk
  show V m c main_v8 (((cfg0.win 9).blk t).view.emb (ix2 f e)) = _
  rw [h]; unfold argWo; entry_read; pointwise

/-- The gain before the feed-forward. -/
theorem gm_at (e : Fin 1024) : iblk m c 10 t (ix2 0 e) = argGm m c e := by
  have h : ((cfg0.win 10).blk t).view.emb (ix2 0 e) = ix2 0 e := by blk_ext [idx t]
  unfold iblk
  show V m c main_v12 (((cfg0.win 10).blk t).view.emb (ix2 0 e)) = _
  rw [h]; unfold argGm; entry_read; pointwise

/-- The feed-forward's first weights. -/
theorem up_at (k : Fin 1024) (f : Fin 4096) : iblk m c 11 t (ix2 k f) = argUp m c k f := by
  have h : ((cfg0.win 11).blk t).view.emb (ix2 k f) = ix2 k f := by blk_ext [idx t]
  unfold iblk
  show V m c main_v9 (((cfg0.win 11).blk t).view.emb (ix2 k f)) = _
  rw [h]; unfold argUp; entry_read; pointwise

/-- The feed-forward's second weights. -/
theorem dn_at (f : Fin 4096) (e : Fin 1024) : iblk m c 12 t (ix2 f e) = argDn m c f e := by
  have h : ((cfg0.win 12).blk t).view.emb (ix2 f e) = ix2 f e := by blk_ext [idx t]
  unfold iblk
  show V m c main_v10 (((cfg0.win 12).blk t).view.emb (ix2 f e)) = _
  rw [h]; unfold argDn; entry_read; pointwise

variable (b : Fin 16) (hb : b.val = (grid0.coords t 0).val)
include hb

/-- Where an entry of the block lies in the result. -/
theorem emb_out (r : Fin 512) (e : Fin 1024) (i : Fin 2048) (hi : i.val = 512 * (grid0.coords t 1).val + r) :
    ((cfg0.win 13).blk t).view.emb (ix3 0 r e) = ix3 b i e := by
  blk_ext [idx t]

/-- The residual stream. -/
theorem x_at (r : Fin 512) (e : Fin 1024) (i : Fin 2048) (hi : i.val = 512 * (grid0.coords t 1).val + r) :
    iblk m c 0 t (ix3 0 r e) = argX m c b i e := by
  have h : ((cfg0.win 0).blk t).view.emb (ix3 0 r e) = ix3 b i e := by blk_ext [idx t]
  unfold iblk
  show V m c main_arg0 (((cfg0.win 0).blk t).view.emb (ix3 0 r e)) = _
  rw [h]; unfold argX; entry_read; rfl

/-- The first mixer's output. -/
theorem oa_at (r : Fin 512) (e : Fin 512) (i : Fin 2048) (hi : i.val = 512 * (grid0.coords t 1).val + r) :
    iblk m c 1 t (ix3 0 r e) = argA m c b i e := by
  have h : ((cfg0.win 1).blk t).view.emb (ix3 0 r e) = ix3 b i e := by blk_ext [idx t]
  unfold iblk
  show V m c main_v1 (((cfg0.win 1).blk t).view.emb (ix3 0 r e)) = _
  rw [h]; unfold argA; entry_read; pointwise

/-- The second mixer's output. -/
theorem ob_at (r : Fin 512) (e : Fin 512) (i : Fin 2048) (hi : i.val = 512 * (grid0.coords t 1).val + r) :
    iblk m c 2 t (ix3 0 r e) = argB m c b i e := by
  have h : ((cfg0.win 2).blk t).view.emb (ix3 0 r e) = ix3 b i e := by blk_ext [idx t]
  unfold iblk
  show V m c main_v2 (((cfg0.win 2).blk t).view.emb (ix3 0 r e)) = _
  rw [h]; unfold argB; entry_read; pointwise

/-- The memory's keys, four heads' rows to a slot. -/
theorem k_at (j : Fin 256) (h : Fin 4) (d : Fin 128) (R : Fin 1024) (hR : R.val = 4 * j.val + h.val) :
    iblk m c 7 t (ix4 0 0 R d) = argK m c b j h d := by
  have he : ((cfg0.win 7).blk t).view.emb (ix4 0 0 R d) = ix4 0 b R d := by blk_ext [idx t]
  unfold iblk
  show V m c main_v6 (((cfg0.win 7).blk t).view.emb (ix4 0 0 R d)) = _
  rw [he]; unfold argK; entry_read; pointwise
  rw [show (⟨R.val / 4, by omega⟩ : Fin 256) = j from Fin.ext (by show R.val / 4 = j.val; omega),
    show (⟨R.val % 4, by omega⟩ : Fin 4) = h from Fin.ext (by show R.val % 4 = h.val; omega)]

/-- The memory's values, likewise. -/
theorem v_at (j : Fin 256) (h : Fin 4) (d : Fin 128) (R : Fin 1024) (hR : R.val = 4 * j.val + h.val) :
    iblk m c 8 t (ix4 0 0 R d) = argV m c b j h d := by
  have he : ((cfg0.win 8).blk t).view.emb (ix4 0 0 R d) = ix4 0 b R d := by blk_ext [idx t]
  unfold iblk
  show V m c main_v7 (((cfg0.win 8).blk t).view.emb (ix4 0 0 R d)) = _
  rw [he]; unfold argV; entry_read; pointwise
  rw [show (⟨R.val / 4, by omega⟩ : Fin 256) = j from Fin.ext (by show R.val / 4 = j.val; omega),
    show (⟨R.val % 4, by omega⟩ : Fin 4) = h from Fin.ext (by show R.val % 4 = h.val; omega)]

end Block

/-- What the program leaves in its result. -/
def out (c : Dev nD) (j : S16x2048x1024.Idx) : EReal :=
  open_post (argX m c (j 0) (j 1)) (cat (argA m c (j 0) (j 1)) (argB m c (j 0) (j 1))) (argW m c) (argGc m c) (argWq m c) (argK m c (j 0)) (argV m c (j 0)) (argWo m c) (argGm m c)
    (argUp m c) (argDn m c) (j 2)

set_option maxHeartbeats 1000000 in
/-- The program's result, for arguments whose scores are real numbers. -/
theorem final (c : Dev nD) (hg : ∀ e, IsR (argGc m c e)) (hq : ∀ k f, IsR (argWq m c k f)) (hk : ∀ b j h d, IsR (argK m c b j h d)) :
    (dats m 0 c).arrAt 13 (cfgs 0).N = out m c := by
  refine (dats m 0 c).arrAt_eq_of_covers 13 _ (by decide +kernel) fun t _ y => ?_
  have hi1 : (grid0.coords t 1).val < 4 := (grid0.coords t 1).isLt
  obtain ⟨b, hb⟩ : ∃ b : Fin 16, b.val = (grid0.coords t 0).val := ⟨⟨_, (grid0.coords t 0).isLt⟩, rfl⟩
  blk_simp
  rw [after0_13]
  unfold outsAt0
  frame_out
  obtain ⟨y0, r, e, rfl⟩ : ∃ y0 r e, y = ix3 y0 r e := ⟨y 0, y 1, y 2, by ext a; fin_cases a <;> rfl⟩
  obtain rfl : y0 = 0 := Subsingleton.elim _ _
  obtain ⟨i, hi⟩ : ∃ i : Fin 2048, i.val = 512 * (grid0.coords t 1).val + r.val := ⟨⟨_, by omega⟩, rfl⟩
  have hG : out m c (((cfg0.win 13).blk t).view.emb (ix3 0 r e)) = open_post (argX m c b i) (cat (argA m c b i) (argB m c b i)) (argW m c) (argGc m c) (argWq m c)
      (argK m c b) (argV m c b) (argWo m c) (argGm m c) (argUp m c) (argDn m c) e := by
    rw [emb_out t b hb r e i hi]; rfl
  refine Eq.trans ?_ hG.symm
  have lu : ∀ (o : ℕ) (q : Fin 8) (hq : o = 512 * q.val) inb (k : Fin 1024) (g : Fin 512),
      View.ld (iblk m c 11 t) (Rect.unit (s := S1024x4096) ![0, o] ![1024, 512] inb) (ix2 k g) = argUp m c k (unit q g) := by
    intro o q hq inb k g
    exact (ld2 (iblk m c 11 t) 0 o inb k g k (unit q g) (Nat.zero_add _).symm (by rw [hq]; rfl)).trans (up_at m c t k _)
  have ld : ∀ (o : ℕ) (q : Fin 8) (hq : o = 512 * q.val) inb (g : Fin 512) (e : Fin 1024),
      View.ld (iblk m c 12 t) (Rect.unit (s := S4096x1024) ![o, 0] ![512, 1024] inb) (ix2 g e) = argDn m c (unit q g) e := by
    intro o q hq inb g e
    exact (ld2 (iblk m c 12 t) o 0 inb g e (unit q g) e (by rw [hq]; rfl) (Nat.zero_add _).symm).trans (dn_at m c t _ e)
  have lk : ∀ (M : Memref sig .tc .vmem S1x1x1024x128 .f32) (hM : M.IsWhole) (h : Fin 4) (o : ℕ) (ho : o = h.val) inb (j : Fin 256) (d : Fin 128),
      View.readAt (Elt Ideal) M.view (⟨![0, 0, o, 0], ![1, 1, 256, 128], ![1, 1, 4, 1], inb⟩ : LoadRect S1x1x1024x128) (hM.unread (iblk m c 7 t)) (ix4 0 0 j d)
        = argK m c b j h d := by
    intro M hM h o ho inb j d
    exact (rows_at M hM (iblk m c 7 t) o (by omega) inb j d).trans (k_at m c t b hb j h d _ (by simp [ho]))
  have lv : ∀ (M : Memref sig .tc .vmem S1x1x1024x128 .f32) (hM : M.IsWhole) (h : Fin 4) (o : ℕ) (ho : o = h.val) inb (j : Fin 256) (d : Fin 128),
      View.readAt (Elt Ideal) M.view (⟨![0, 0, o, 0], ![1, 1, 256, 128], ![1, 1, 4, 1], inb⟩ : LoadRect S1x1x1024x128) (hM.unread (iblk m c 8 t)) (ix4 0 0 j d)
        = argV m c b j h d := by
    intro M hM h o ho inb j d
    exact (rows_at M hM (iblk m c 8 t) o (by omega) inb j d).trans (v_at m c t b hb j h d _ (by simp [ho]))
  refine body_at r _ _ _ _ _ _ _ _ _ _ _ _ _ _ _ _ _ _ _ _ _ _ _ _ _ _ _ _ _ _ _ _ _ _ _
    (fun e => x_at m c t b hb r e i hi) (fun e => oa_at m c t b hb r e i hi) (fun e => ob_at m c t b hb r e i hi)
    (fun k e => (ld2 (iblk m c 3 t) 0 0 _ k e k ⟨e, by omega⟩ (Nat.zero_add _).symm (Nat.zero_add _).symm).trans (wa_at m c t k _))
    (fun k e => (ld2 (iblk m c 4 t) 0 0 _ k e k ⟨e, by omega⟩ (Nat.zero_add _).symm (Nat.zero_add _).symm).trans (wb_at m c t k _))
    (fun k e => (ld2 (iblk m c 3 t) 0 512 _ k e k ⟨512 + e, by omega⟩ (Nat.zero_add _).symm rfl).trans (wa_at m c t k _))
    (fun k e => (ld2 (iblk m c 4 t) 0 512 _ k e k ⟨512 + e, by omega⟩ (Nat.zero_add _).symm rfl).trans (wb_at m c t k _))
    (gc_at m c t) (wq_at m c t)
    (lk _ _ 0 0 rfl _) (lv _ _ 0 0 rfl _) (lk _ _ 1 1 rfl _) (lv _ _ 1 1 rfl _) (lk _ _ 2 2 rfl _) (lv _ _ 2 2 rfl _) (lk _ _ 3 3 rfl _) (lv _ _ 3 3 rfl _)
    (wo_at m c t) (gm_at m c t)
    (lu 0 0 rfl _) (ld 0 0 rfl _) (lu 512 1 rfl _) (ld 512 1 rfl _) (lu 1024 2 rfl _) (ld 1024 2 rfl _) (lu 1536 3 rfl _) (ld 1536 3 rfl _)
    (lu 2048 4 rfl _) (ld 2048 4 rfl _) (lu 2560 5 rfl _) (ld 2560 5 rfl _) (lu 3072 6 rfl _) (ld 3072 6 rfl _) (lu 3584 7 rfl _) (ld 3584 7 rfl _)
    hg hq (hk b) e

end Cert.Kernel3Ideal.Post
end
-- ==== Proof.Post3Ref.lean ====
module

public import proofs.«01_k».proof.Proof.PostRef
public import proofs.«01_k».proof.Proof.Gen.Reference3Ideal.Read
public import Idealize.ShloMosaic.Lib.Pointwise

@[expose] public section
set_option maxRecDepth 16384
noncomputable section

/-! The first layer's second half, as its reference computes it: two mixers' outputs side by side, the first
layer's memory, and no final norm. -/

namespace Cert.Reference3Ideal.Post

open Cert.Reference3Ideal Cert.Reference3Ideal.Gen Cert.Reference3Ideal.Read Idealize.ShloMosaic Cert.Post
open Cert.Reference2Ideal.Post (vec mat tok)
open Cert.ReferenceIdeal.Fox (max_last max_bot_fold)

/-- The first layer's share of a memory array. -/
def mem {a b c d : ℕ} (x : (⟨5, ![2, a, b, c, d]⟩ : Shape).Idx → EReal) (i : Fin a) (j : Fin b) (h : Fin c) (e : Fin d) : EReal := x (ix5 0 i j h e)

variable (x0 : (⟨S16x2048x1024, .f32⟩ : BufTy).Contents (Elt Ideal)) (x1 x2 : (⟨S16x2048x512, .f32⟩ : BufTy).Contents (Elt Ideal))
  (x3 : (⟨S1024x1024, .f32⟩ : BufTy).Contents (Elt Ideal)) (x4 : (⟨S1024, .f32⟩ : BufTy).Contents (Elt Ideal)) (x5 : (⟨S1024x512, .f32⟩ : BufTy).Contents (Elt Ideal))
  (x6 x7 : (⟨S2x16x256x4x128, .f32⟩ : BufTy).Contents (Elt Ideal)) (x8 : (⟨S512x1024, .f32⟩ : BufTy).Contents (Elt Ideal))
  (x9 : (⟨S1024, .f32⟩ : BufTy).Contents (Elt Ideal)) (x10 : (⟨S1024x4096, .f32⟩ : BufTy).Contents (Elt Ideal)) (x11 : (⟨S4096x1024, .f32⟩ : BufTy).Contents (Elt Ideal))

/-- The stream after the mixers' projection. -/
theorem stream1_at (b : Fin 16) (i : Fin 2048) (e : Fin 1024) : val_main_v2 (F := Ideal) x0 x1 x2 x3 (ix3 b i e)
    = stream1 (tok x0 b i) (cat (tok x1 b i) (tok x2 b i)) (mat x3) e := by
  unfold val_main_v2 val_main_v1 val_main_v0
  pointwise
  unfold stream1
  rw [lin_cat]
  rfl

/-- The norm before the attention. -/
theorem norm1_at (b : Fin 16) (i : Fin 2048) (e : Fin 1024) : val_main_v15 (F := Ideal) x0 x1 x2 x3 x4 (ix3 b i e)
    = rms (tok (val_main_v2 (F := Ideal) x0 x1 x2 x3) b i) (vec x4) e := by
  unfold val_main_v15 val_main_v14 val_main_v13 val_main_v12 val_main_v11 val_main_v10 val_main_v9 val_main_v8 val_main_cst_1 val_main_v7 val_main_v6 val_main_cst_0 val_main_v5 val_main_v4 val_main_cst val_main_v3
  generalize val_main_v2 (F := Ideal) x0 x1 x2 x3 = y
  pointwise
  rfl

/-- The queries, a head's columns together. -/
theorem query_at (b : Fin 16) (i : Fin 2048) (h : Fin 4) (d : Fin 128) : val_main_v17 (F := Ideal) x0 x1 x2 x3 x4 x5 (ix4 b i h d)
    = lin (tok (val_main_v15 (F := Ideal) x0 x1 x2 x3 x4) b i) (mat x5) (Cert.Fox.col h d) := by
  unfold val_main_v17 val_main_v16
  generalize val_main_v15 (F := Ideal) x0 x1 x2 x3 x4 = y
  pointwise
  exact Finset.sum_congr rfl fun k _ => congrArg (fun a => y (ix3 b i k) * x5 (ix2 k a)) (Fin.ext (by show h.val * 128 + d.val = 128 * h.val + d.val; omega))

/-- The scores of the memory slots. -/
theorem score_at (b : Fin 16) (i : Fin 2048) (h : Fin 4) (j : Fin 256) : val_main_v22 (F := Ideal) x0 x1 x2 x3 x4 x5 x6 (ix4 b h i j)
    = (∑ d, val_main_v17 (F := Ideal) x0 x1 x2 x3 x4 x5 (ix4 b i h d) * mem x6 b j h d) * scale := by
  unfold val_main_v22 val_main_v21 val_main_cst_2 val_main_v20 val_main_v19 val_main_v18
  generalize val_main_v17 (F := Ideal) x0 x1 x2 x3 x4 x5 = y
  pointwise
  rfl

/-- The largest score, as a fold over the slots. -/
theorem max_at (b : Fin 16) (h : Fin 4) (i : Fin 2048) : val_main_v23 (F := Ideal) x0 x1 x2 x3 x4 x5 x6 (ix3 b h i)
    = Finset.univ.fold max (val_main_cst_3 (F := Ideal) (Shape.Idx.first h_S_)) (fun p : Fin 256 => (val_main_v22 (F := Ideal) x0 x1 x2 x3 x4 x5 x6 (ix4 b h i p) : EReal)) := by
  unfold val_main_v23
  generalize val_main_v22 (F := Ideal) x0 x1 x2 x3 x4 x5 x6 = y
  generalize val_main_cst_3 (F := Ideal) = z
  exact max_last _ _ _ _ _ _ _

/-- The fold starts from minus infinity. -/
theorem start_at : val_main_cst_3 (F := Ideal) (Shape.Idx.first h_S_) = Ideal.ofBits FTy.f32 4286578688#32 := rfl

/-- The array of minus infinities the softmax compares with. -/
theorem least_at (i : S16x4x2048.Idx) : val_main_v24 (F := Ideal) i = Ideal.ofBits FTy.f32 4286578688#32 :=
  (val_main_v24_apply i).trans rfl

/-- What the softmax subtracts: the largest score. -/
theorem shift_at (b : Fin 16) (h : Fin 4) (i : Fin 2048) : val_main_v25 (F := Ideal) x0 x1 x2 x3 x4 x5 x6 (ix3 b h i)
    = Finset.univ.fold max ⊥ (fun p : Fin 256 => (val_main_v22 (F := Ideal) x0 x1 x2 x3 x4 x5 x6 (ix4 b h i p) : EReal)) := by
  have e := max_at x0 x1 x2 x3 x4 x5 x6 b h i
  rw [start_at] at e
  have e2 := val_main_v25_apply (F := Ideal) x0 x1 x2 x3 x4 x5 x6 (ix3 b h i)
  rw [least_at] at e2
  generalize val_main_v25 (F := Ideal) x0 x1 x2 x3 x4 x5 x6 (ix3 b h i) = A at e2 ⊢
  generalize val_main_v23 (F := Ideal) x0 x1 x2 x3 x4 x5 x6 (ix3 b h i) = B at e e2
  have e3 := max_bot_fold _ _ e
  exact Eq.trans e2 e3

/-- A softmax weight. -/
theorem weight_at (b : Fin 16) (h : Fin 4) (i : Fin 2048) (p : Fin 256) : val_main_v33 (F := Ideal) x0 x1 x2 x3 x4 x5 x6 (ix4 b h i p)
    = Ideal.div (Ideal.exp (val_main_v22 (F := Ideal) x0 x1 x2 x3 x4 x5 x6 (ix4 b h i p) - val_main_v25 (F := Ideal) x0 x1 x2 x3 x4 x5 x6 (ix3 b h i)))
        (∑ k : Fin 256, Ideal.exp (val_main_v22 (F := Ideal) x0 x1 x2 x3 x4 x5 x6 (ix4 b h i k) - val_main_v25 (F := Ideal) x0 x1 x2 x3 x4 x5 x6 (ix3 b h i))) := by
  unfold val_main_v33 val_main_v32 val_main_v31 val_main_v30 val_main_cst_5 val_main_v29 val_main_v28 val_main_v27 val_main_v26
  generalize val_main_v22 (F := Ideal) x0 x1 x2 x3 x4 x5 x6 = y
  generalize val_main_v25 (F := Ideal) x0 x1 x2 x3 x4 x5 x6 = z
  pointwise

/-- The four heads' weighted values side by side. -/
theorem heads_at (b : Fin 16) (i : Fin 2048) (f : Fin 512) : val_main_v38 (F := Ideal) x0 x1 x2 x3 x4 x5 x6 x7 (ix3 b i f)
    = ∑ j, mem x7 b j (Cert.Fox.head f) (Cert.Fox.lane f) * val_main_v33 (F := Ideal) x0 x1 x2 x3 x4 x5 x6 (ix4 b (Cert.Fox.head f) i j) := by
  unfold val_main_v38 val_main_v37 val_main_v36 val_main_v35 val_main_v34
  generalize val_main_v33 (F := Ideal) x0 x1 x2 x3 x4 x5 x6 = y
  pointwise
  rfl

/-- The stream after the attention. -/
theorem stream2_at (b : Fin 16) (i : Fin 2048) (e : Fin 1024) : val_main_v40 (F := Ideal) x0 x1 x2 x3 x4 x5 x6 x7 x8 (ix3 b i e)
    = val_main_v2 (F := Ideal) x0 x1 x2 x3 (ix3 b i e) + lin (tok (val_main_v38 (F := Ideal) x0 x1 x2 x3 x4 x5 x6 x7) b i) (mat x8) e := by
  unfold val_main_v40 val_main_v39
  generalize val_main_v38 (F := Ideal) x0 x1 x2 x3 x4 x5 x6 x7 = y
  generalize val_main_v2 (F := Ideal) x0 x1 x2 x3 = z
  pointwise
  rfl

/-- The norm before the feed-forward. -/
theorem norm2_at (b : Fin 16) (i : Fin 2048) (e : Fin 1024) : val_main_v53 (F := Ideal) x0 x1 x2 x3 x4 x5 x6 x7 x8 x9 (ix3 b i e)
    = rms (tok (val_main_v40 (F := Ideal) x0 x1 x2 x3 x4 x5 x6 x7 x8) b i) (vec x9) e := by
  unfold val_main_v53 val_main_v52 val_main_v51 val_main_v50 val_main_v49 val_main_v48 val_main_v47 val_main_v46 val_main_cst_8 val_main_v45 val_main_v44 val_main_cst_7 val_main_v43 val_main_v42 val_main_cst_6 val_main_v41
  generalize val_main_v40 (F := Ideal) x0 x1 x2 x3 x4 x5 x6 x7 x8 = y
  pointwise
  rfl

/-- The squared ReLU of the hidden units. -/
theorem act_at (b : Fin 16) (i : Fin 2048) (f : Fin 4096) : val_main_v56 (F := Ideal) x0 x1 x2 x3 x4 x5 x6 x7 x8 x9 x10 (ix3 b i f)
    = act (tok (val_main_v53 (F := Ideal) x0 x1 x2 x3 x4 x5 x6 x7 x8 x9) b i) (mat x10) f := by
  unfold val_main_v56 val_main_v55 val_main_call0_v0 val_main_call0_cst val_main_v54
  generalize val_main_v53 (F := Ideal) x0 x1 x2 x3 x4 x5 x6 x7 x8 x9 = y
  pointwise
  rfl

/-- The stream after the feed-forward. -/
theorem stream3_at (b : Fin 16) (i : Fin 2048) (e : Fin 1024) : val_main_v58 (F := Ideal) x0 x1 x2 x3 x4 x5 x6 x7 x8 x9 x10 x11 (ix3 b i e)
    = val_main_v40 (F := Ideal) x0 x1 x2 x3 x4 x5 x6 x7 x8 (ix3 b i e) + lin (tok (val_main_v56 (F := Ideal) x0 x1 x2 x3 x4 x5 x6 x7 x8 x9 x10) b i) (mat x11) e := by
  unfold val_main_v58 val_main_v57
  generalize val_main_v56 (F := Ideal) x0 x1 x2 x3 x4 x5 x6 x7 x8 x9 x10 = y
  generalize val_main_v40 (F := Ideal) x0 x1 x2 x3 x4 x5 x6 x7 x8 = z
  pointwise
  rfl

/-- The reference computes `open_post` of its arguments' entries, token by token. -/
theorem ref_at (b : Fin 16) (i : Fin 2048) (e : Fin 1024) : val_main_v58 (F := Ideal) x0 x1 x2 x3 x4 x5 x6 x7 x8 x9 x10 x11 (ix3 b i e)
    = open_post (tok x0 b i) (cat (tok x1 b i) (tok x2 b i)) (mat x3) (vec x4) (mat x5) (mem x6 b) (mem x7 b) (mat x8) (vec x9) (mat x10) (mat x11) e := by
  have e1 : tok (val_main_v2 (F := Ideal) x0 x1 x2 x3) b i = stream1 (tok x0 b i) (cat (tok x1 b i) (tok x2 b i)) (mat x3) := funext (stream1_at x0 x1 x2 x3 b i)
  have e2 : tok (val_main_v15 (F := Ideal) x0 x1 x2 x3 x4) b i = rms (tok (val_main_v2 (F := Ideal) x0 x1 x2 x3) b i) (vec x4) := funext (norm1_at x0 x1 x2 x3 x4 b i)
  have e3 := query_at x0 x1 x2 x3 x4 x5 b i
  have e4 := fun h j => score_at x0 x1 x2 x3 x4 x5 x6 b i h j
  have e5 := fun h => shift_at x0 x1 x2 x3 x4 x5 x6 b h i
  have e6 := fun h p => weight_at x0 x1 x2 x3 x4 x5 x6 b h i p
  have e7 := heads_at x0 x1 x2 x3 x4 x5 x6 x7 b i
  have e8 := stream2_at x0 x1 x2 x3 x4 x5 x6 x7 x8 b i
  have e9 : tok (val_main_v53 (F := Ideal) x0 x1 x2 x3 x4 x5 x6 x7 x8 x9) b i = rms (tok (val_main_v40 (F := Ideal) x0 x1 x2 x3 x4 x5 x6 x7 x8) b i) (vec x9) := funext (norm2_at x0 x1 x2 x3 x4 x5 x6 x7 x8 x9 b i)
  have e10 : tok (val_main_v56 (F := Ideal) x0 x1 x2 x3 x4 x5 x6 x7 x8 x9 x10) b i = act (tok (val_main_v53 (F := Ideal) x0 x1 x2 x3 x4 x5 x6 x7 x8 x9) b i) (mat x10) := funext (act_at x0 x1 x2 x3 x4 x5 x6 x7 x8 x9 x10 b i)
  have e11 := stream3_at x0 x1 x2 x3 x4 x5 x6 x7 x8 x9 x10 x11 b i
  generalize val_main_v58 (F := Ideal) x0 x1 x2 x3 x4 x5 x6 x7 x8 x9 x10 x11 = y11 at *
  generalize val_main_v56 (F := Ideal) x0 x1 x2 x3 x4 x5 x6 x7 x8 x9 x10 = y10 at *
  generalize val_main_v53 (F := Ideal) x0 x1 x2 x3 x4 x5 x6 x7 x8 x9 = y9 at *
  generalize val_main_v40 (F := Ideal) x0 x1 x2 x3 x4 x5 x6 x7 x8 = y8 at *
  generalize val_main_v38 (F := Ideal) x0 x1 x2 x3 x4 x5 x6 x7 = y7 at *
  generalize val_main_v33 (F := Ideal) x0 x1 x2 x3 x4 x5 x6 = y6 at *
  generalize val_main_v25 (F := Ideal) x0 x1 x2 x3 x4 x5 x6 = y5 at *
  generalize val_main_v22 (F := Ideal) x0 x1 x2 x3 x4 x5 x6 = y4 at *
  generalize val_main_v17 (F := Ideal) x0 x1 x2 x3 x4 x5 = y3 at *
  generalize val_main_v15 (F := Ideal) x0 x1 x2 x3 x4 = y2 at *
  generalize val_main_v2 (F := Ideal) x0 x1 x2 x3 = y1 at *
  have f4 : ∀ h j, y4 (ix4 b h i j) = score (lin (rms (tok y1 b i) (vec x4)) (mat x5)) (mem x6 b) h j := fun h j => by
    rw [e4, ← e2]
    unfold score
    exact congrArg (fun a : EReal => a * scale) (Finset.sum_congr rfl fun d _ => congrArg (fun a : EReal => a * mem x6 b j h d) (e3 h d))
  have f7 : tok y7 b i = heads (lin (rms (tok y1 b i) (vec x4)) (mat x5)) (mem x6 b) (mem x7 b) := funext fun f => by
    refine (e7 f).trans ?_
    unfold heads soften
    refine Finset.sum_congr rfl fun j _ => congrArg (fun a : EReal => mem x7 b j (Cert.Fox.head f) (Cert.Fox.lane f) * a) ?_
    rw [e6, e5]
    simp only [f4]
  have f8 : tok y8 b i = stream2 (tok y1 b i) (vec x4) (mat x5) (mem x6 b) (mem x7 b) (mat x8) := funext fun a => by
    refine (e8 a).trans ?_
    rw [f7]
    rfl
  have f11 : tok y11 b i = stream3 (tok y8 b i) (vec x9) (mat x10) (mat x11) := funext fun a => by
    refine (e11 a).trans ?_
    rw [e10, e9]
    rfl
  refine (congrFun f11 e).trans ?_
  rw [f8, e1]
  rfl

end Cert.Reference3Ideal.Post
end
-- ==== Proof.ProjBody.lean ====
module

public import proofs.«01_k».proof.Proof.PostMath
public import proofs.«01_k».proof.Proof.Gen.Kernel4Ideal.Skeleton
public import Idealize.ShloMosaic.Lib.Pointwise

@[expose] public section
set_option maxRecDepth 16384
noncomputable section

/-! What the body of the second layer's norm and projection computes for one token, chunk of columns by chunk. -/

namespace Cert.Kernel4Ideal.Proj

open Cert.Kernel4Ideal Cert.Kernel4Ideal.Gen Idealize.ShloMosaic Cert.Post

/-- The queries' scale: the single-precision number nearest to the logarithm of e to base 2 over the square root of 64. -/
def qscale : EReal := Ideal.ofBits FTy.f32 0x3E38AA3B#32

section Row
variable (r : Fin 1024) (v0 : Vec Ideal S1024x1024 .f32) (v2 : Vec Ideal S1x1x1024 .f32) {x g : Fin 1024 → EReal}
  (hx : ∀ e, v0 (ix2 r e) = x e) (hg : ∀ e, v2 (ix3 0 0 e) = g e)
include hx hg

/-- The norm. -/
theorem norm_at (e : Fin 1024) : k0_pay4 (F := Ideal) v0 v2 (ix2 r e) = rms x g e := by
  unfold k0_pay4
  pointwise
  simp only [hx, hg]
  rfl

/-- The first half of the queries. -/
theorem q0_at (v : Vec Ideal S1x1024x512 .bf16) {w : Fin 1024 → Fin 512 → EReal} (hw : ∀ k f, v (ix3 0 k f) = w k f) (f : Fin 512) :
    k0_pay6 (F := Ideal) v0 v2 v (ix3 0 r f) = lin (rms x g) w f * qscale := by
  have hn := norm_at r v0 v2 hx hg
  unfold k0_pay6
  generalize k0_pay4 (F := Ideal) v0 v2 = y at *
  pointwise
  simp only [hn, hw]
  rfl

/-- The other half. -/
theorem q1_at (v : Vec Ideal S1x1024x512 .bf16) {w : Fin 1024 → Fin 512 → EReal} (hw : ∀ k f, v (ix3 0 k f) = w k f) (f : Fin 512) :
    k0_pay1 (F := Ideal) (k0_pay5 v0 v2 v) (Scalar.ofBits .f32 0x3E38AA3B#32) (ix3 0 r f) = lin (rms x g) w f * qscale := by
  have hn := norm_at r v0 v2 hx hg
  unfold k0_pay1 k0_pay5
  generalize k0_pay4 (F := Ideal) v0 v2 = y at *
  pointwise
  simp only [hn, hw]
  rfl

/-- The keys. -/
theorem k_at (v : Vec Ideal S1x1024x256 .bf16) {w : Fin 1024 → Fin 256 → EReal} (hw : ∀ k f, v (ix3 0 k f) = w k f) (f : Fin 256) :
    k0_pay2 (F := Ideal) (k0_pay7 v0 v2 v) (ix3 0 r f) = lin (rms x g) w f := by
  have hn := norm_at r v0 v2 hx hg
  unfold k0_pay2 k0_pay7
  generalize k0_pay4 (F := Ideal) v0 v2 = y at *
  pointwise
  simp only [hn, hw]
  rfl

/-- The values. -/
theorem v_at (v : Vec Ideal S1x1024x256 .bf16) {w : Fin 1024 → Fin 256 → EReal} (hw : ∀ k f, v (ix3 0 k f) = w k f) (f : Fin 256) :
    k0_pay3 (F := Ideal) (k0_pay4 v0 v2) v (ix3 0 r f) = lin (rms x g) w f := by
  have hn := norm_at r v0 v2 hx hg
  unfold k0_pay3
  generalize k0_pay4 (F := Ideal) v0 v2 = y at *
  pointwise
  simp only [hn, hw]
  rfl

end Row

end Cert.Kernel4Ideal.Proj
end
-- ==== Proof.ProjKernel.lean ====
module

public import proofs.«01_k».proof.Proof.ProjBody
public import proofs.«01_k».proof.Proof.Gen.Kernel4Ideal.Frame
public import Idealize.ShloMosaic.Lib.Pipeline.ValueKit
public import Idealize.ShloMosaic.Lib.Pointwise
public import Idealize.ShloMosaic.Lib.WholeRead

@[expose] public section

set_option maxRecDepth 16384

noncomputable section

/-! What the second layer's norm and projection leave in their three results: the normed row of a token times the
columns of the weights, the queries scaled. -/

namespace Cert.Kernel4Ideal.Proj

open Cert.Kernel4Ideal Cert.Kernel4Ideal.Gen Idealize.ShloMosaic Idealize.ShloMosaic.TcCoe Idealize.SL.Sem
open Idealize.ShloMosaic.Pipeline (Dat)
open Cert.Post

variable (m : (ℓ : Loc nD τ sig) → Buf (Elt Ideal) ℓ)

/-- Which block of each array a grid point works on. -/
theorem idx : ∀ t : Fin cfg0.N, win0_0.index t = ![(grid0.coords t 1).val, 0]
    ∧ win0_1.index t = ![0, 0, 0] ∧ win0_2.index t = ![0, 0, 0]
    ∧ win0_3.index t = ![0, (grid0.coords t 1).val, 0] ∧ win0_4.index t = ![0, (grid0.coords t 1).val, 0]
    ∧ win0_5.index t = ![0, (grid0.coords t 1).val, 0] :=
  (by decide +kernel : ∀ t : Fin grid0.N, _)

/-- The stream of token `i`, the batch's tokens counted through. -/
def argX (c : Dev nD) (i : Fin 32768) (e : Fin 1024) : EReal :=
  m ((c : Thread nD τ).loc main_arg0) (ix3 ⟨i.val / 2048, by omega⟩ ⟨i.val % 2048, by omega⟩ e)
/-- The gain. -/
def argG (c : Dev nD) (e : Fin 1024) : EReal := m ((c : Thread nD τ).loc main_arg1) (ix1 e)
/-- The weights from column `o` on. -/
def argW (c : Dev nD) (o : ℕ) {n : ℕ} (h : o + n ≤ 1536) (k : Fin 1024) (f : Fin n) : EReal :=
  m ((c : Thread nD τ).loc main_arg2) (ix2 k ⟨o + f.val, by omega⟩)

section Block
variable (c : Dev nD) (t : Fin cfg0.N)

/-- The gain. -/
theorem g_at (e : Fin 1024) : iblk m c 1 t (ix3 0 0 e) = argG m c e := by
  have h : ((cfg0.win 1).blk t).view.emb (ix3 0 0 e) = ix3 0 0 e := by blk_ext [idx t]
  unfold iblk
  show V m c main_v2 (((cfg0.win 1).blk t).view.emb (ix3 0 0 e)) = _
  rw [h]; unfold argG; entry_read; pointwise

/-- The weights. -/
theorem w_at (k : Fin 1024) (f : Fin 1536) : iblk m c 2 t (ix3 0 k f) = m ((c : Thread nD τ).loc main_arg2) (ix2 k f) := by
  have h : ((cfg0.win 2).blk t).view.emb (ix3 0 k f) = ix3 0 k f := by blk_ext [idx t]
  unfold iblk
  show V m c main_v3 (((cfg0.win 2).blk t).view.emb (ix3 0 k f)) = _
  rw [h]; entry_read; pointwise

/-- A load of some of the weights' columns. -/
theorem ld_at (o : ℕ) {n : ℕ} (hn : o + n ≤ 1536) (inb) (k : Fin 1024) (f : Fin n) :
    View.ld (iblk m c 2 t) (Rect.unit (s := S1x1024x1536) ![0, 0, o] ![1, 1024, n] inb) (ix3 0 k f) = argW m c o hn k f := by
  refine (View.ld_unit_apply_of (iblk m c 2 t) ![0, 0, o] ![1, 1024, n] inb (ix3 0 k f) (ix3 0 k ⟨o + f.val, by omega⟩) ?_).trans (w_at m c t k _)
  intro x; fin_cases x <;> simp [ix3]

/-- A token's row. -/
theorem x_at (r : Fin 1024) (i : Fin 32768) (hi : i.val = 1024 * (grid0.coords t 1).val + r) (e : Fin 1024) :
    iblk m c 0 t (ix2 r e) = argX m c i e := by
  have h : ((cfg0.win 0).blk t).view.emb (ix2 r e) = ix2 i e := by blk_ext [idx t]
  unfold iblk
  show V m c main_v0 (((cfg0.win 0).blk t).view.emb (ix2 r e)) = _
  rw [h]; unfold argX; entry_read; pointwise

/-- A load of a token's row. -/
theorem lx_at (r : Fin 1024) (i : Fin 32768) (hi : i.val = 1024 * (grid0.coords t 1).val + r) (e : Fin 1024) :
    View.ld (iblk m c 0 t) r0_0 (ix2 r e) = argX m c i e :=
  (View.ld_unit_apply_of (iblk m c 0 t) ![0, 0] S1024x1024.size _ (ix2 r e) (ix2 r e) (by intro x; fin_cases x <;> simp [ix2])).trans (x_at m c t r i hi e)

/-- A load of the gain. -/
theorem lg_at (e : Fin 1024) : View.ld (iblk m c 1 t) r0_1 (ix3 0 0 e) = argG m c e :=
  (View.ld_unit_apply_of (iblk m c 1 t) ![0, 0, 0] S1x1x1024.size _ (ix3 0 0 e) (ix3 0 0 e) (by intro x; fin_cases x <;> simp [ix3])).trans (g_at m c t e)

/-- Where the entries of the results' blocks lie. -/
theorem emb_q (r : Fin 1024) (i : Fin 32768) (hi : i.val = 1024 * (grid0.coords t 1).val + r) (e : Fin 1024) :
    ((cfg0.win 3).blk t).view.emb (ix3 0 r e) = ix3 0 i e := by
  blk_ext [idx t]
/-- The keys'. -/
theorem emb_k (r : Fin 1024) (i : Fin 32768) (hi : i.val = 1024 * (grid0.coords t 1).val + r) (e : Fin 256) :
    ((cfg0.win 4).blk t).view.emb (ix3 0 r e) = ix3 0 i e := by
  blk_ext [idx t]
/-- The values'. -/
theorem emb_v (r : Fin 1024) (i : Fin 32768) (hi : i.val = 1024 * (grid0.coords t 1).val + r) (e : Fin 256) :
    ((cfg0.win 5).blk t).view.emb (ix3 0 r e) = ix3 0 i e := by
  blk_ext [idx t]

end Block

/-- An entry of a store's rectangle, in the block. -/
theorem rect_at {a b p q : ℕ} (o : ℕ) (inb) (r : Fin b) (e : Fin q) (e' : Fin p) (he : e'.val = o + e.val) :
    (Rect.unit (s := ⟨3, ![1, b, p]⟩) ![0, 0, o] ![1, b, q] inb).idx (ix3 0 r e) = (ix3 0 r e' : (⟨3, ![1, b, p]⟩ : Shape).Idx) := by
  refine funext fun x => Fin.ext ?_
  fin_cases x
  · rfl
  · show 0 + 1 * r.val = r.val; omega
  · show o + 1 * e.val = e'.val; omega

/-- The queries the program leaves. -/
def outQ (c : Dev nD) : Vec Ideal S1x32768x1024 .bf16 := fun j =>
  lin (rms (argX m c (j 1)) (argG m c)) (fun k (f : Fin 1024) => m ((c : Thread nD τ).loc main_arg2) (ix2 k ⟨f.val, by omega⟩)) (j 2) * qscale
/-- The keys. -/
def outK (c : Dev nD) : Vec Ideal S1x32768x256 .f32 := fun j => lin (rms (argX m c (j 1)) (argG m c)) (argW m c 1024 (n := 256) (by omega)) (j 2)
/-- The values. -/
def outV (c : Dev nD) : Vec Ideal S1x32768x256 .f32 := fun j => lin (rms (argX m c (j 1)) (argG m c)) (argW m c 1280 (n := 256) (by omega)) (j 2)

/-- The program's first result. -/
theorem finalQ (c : Dev nD) : (dats m 0 c).arrAt 3 (cfgs 0).N = outQ m c := by
  refine (dats m 0 c).arrAt_eq_of_covers 3 _ (by decide +kernel) fun t _ y => ?_
  have hi1 : (grid0.coords t 1).val < 32 := (grid0.coords t 1).isLt
  blk_simp
  rw [after0_3]
  unfold out0_3
  refine View.canon_apply_of_pieces (fun y => outQ m c (((cfg0.win 3).blk t).view.emb y)) _ ?_ y (cover0_3 _ _ y)
  intro pc hpc
  rcases List.mem_cons.mp hpc with rfl | hpc
  · intro x
    obtain ⟨x0, r, e, rfl⟩ : ∃ x0 r e, x = ix3 x0 r e := ⟨x 0, x 1, x 2, by ext a; fin_cases a <;> rfl⟩
    obtain rfl : x0 = 0 := Subsingleton.elim _ _
    obtain ⟨i, hi⟩ : ∃ i : Fin 32768, i.val = 1024 * (grid0.coords t 1).val + r.val := ⟨⟨_, by omega⟩, rfl⟩
    show k0_pay1 (F := Ideal) (k0_pay5 (View.ld (iblk m c 0 t) r0_0) (View.ld (iblk m c 1 t) r0_1) (View.ld (iblk m c 2 t) r0_3)) (Scalar.ofBits .f32 0x3E38AA3B#32) (ix3 0 r e) = outQ m c (((cfg0.win 3).blk t).view.emb (r0_6.idx (ix3 0 r e)))
    rw [rect_at (a := 1) 512 _ r e ⟨512 + e.val, by omega⟩ (by simp), emb_q t r i hi]
    exact q1_at r _ _ (lx_at m c t r i hi) (lg_at m c t) _ (fun k f => ld_at m c t 512 (n := 512) (by omega) _ k f) e
  rcases List.mem_cons.mp hpc with rfl | hpc
  · intro x
    obtain ⟨x0, r, e, rfl⟩ : ∃ x0 r e, x = ix3 x0 r e := ⟨x 0, x 1, x 2, by ext a; fin_cases a <;> rfl⟩
    obtain rfl : x0 = 0 := Subsingleton.elim _ _
    obtain ⟨i, hi⟩ : ∃ i : Fin 32768, i.val = 1024 * (grid0.coords t 1).val + r.val := ⟨⟨_, by omega⟩, rfl⟩
    show k0_pay6 (F := Ideal) (View.ld (iblk m c 0 t) r0_0) (View.ld (iblk m c 1 t) r0_1) (View.ld (iblk m c 2 t) r0_2) (ix3 0 r e) = outQ m c (((cfg0.win 3).blk t).view.emb (r0_4.idx (ix3 0 r e)))
    rw [rect_at (a := 1) 0 _ r e ⟨0 + e.val, by omega⟩ (by simp), emb_q t r i hi]
    exact q0_at r _ _ (lx_at m c t r i hi) (lg_at m c t) _ (fun k f => ld_at m c t 0 (n := 512) (by omega) _ k f) e
  nomatch hpc

/-- The program's second result. -/
theorem finalK (c : Dev nD) : (dats m 0 c).arrAt 4 (cfgs 0).N = outK m c := by
  refine (dats m 0 c).arrAt_eq_of_covers 4 _ (by decide +kernel) fun t _ y => ?_
  have hi1 : (grid0.coords t 1).val < 32 := (grid0.coords t 1).isLt
  blk_simp
  rw [after0_4]
  unfold out0_4
  refine View.canon_apply_of_pieces (fun y => outK m c (((cfg0.win 4).blk t).view.emb y)) _ ?_ y (cover0_4 _ y)
  intro pc hpc
  rcases List.mem_cons.mp hpc with rfl | hpc
  · intro x
    obtain ⟨x0, r, e, rfl⟩ : ∃ x0 r e, x = ix3 x0 r e := ⟨x 0, x 1, x 2, by ext a; fin_cases a <;> rfl⟩
    obtain rfl : x0 = 0 := Subsingleton.elim _ _
    obtain ⟨i, hi⟩ : ∃ i : Fin 32768, i.val = 1024 * (grid0.coords t 1).val + r.val := ⟨⟨_, by omega⟩, rfl⟩
    show k0_pay2 (F := Ideal) (k0_pay7 (View.ld (iblk m c 0 t) r0_0) (View.ld (iblk m c 1 t) r0_1) (View.ld (iblk m c 2 t) r0_5)) (ix3 0 r e) = outK m c (((cfg0.win 4).blk t).view.emb (r0_8.idx (ix3 0 r e)))
    rw [rect_at (a := 1) 0 _ r e e (by simp), emb_k t r i hi]
    exact k_at r _ _ (lx_at m c t r i hi) (lg_at m c t) _ (fun k f => ld_at m c t 1024 (n := 256) (by omega) _ k f) e
  nomatch hpc

/-- The program's third result. -/
theorem finalV (c : Dev nD) : (dats m 0 c).arrAt 5 (cfgs 0).N = outV m c := by
  refine (dats m 0 c).arrAt_eq_of_covers 5 _ (by decide +kernel) fun t _ y => ?_
  have hi1 : (grid0.coords t 1).val < 32 := (grid0.coords t 1).isLt
  blk_simp
  rw [after0_5]
  unfold out0_5
  refine View.canon_apply_of_pieces (fun y => outV m c (((cfg0.win 5).blk t).view.emb y)) _ ?_ y (cover0_5 _ y)
  intro pc hpc
  rcases List.mem_cons.mp hpc with rfl | hpc
  · intro x
    obtain ⟨x0, r, e, rfl⟩ : ∃ x0 r e, x = ix3 x0 r e := ⟨x 0, x 1, x 2, by ext a; fin_cases a <;> rfl⟩
    obtain rfl : x0 = 0 := Subsingleton.elim _ _
    obtain ⟨i, hi⟩ : ∃ i : Fin 32768, i.val = 1024 * (grid0.coords t 1).val + r.val := ⟨⟨_, by omega⟩, rfl⟩
    show k0_pay3 (F := Ideal) (k0_pay4 (View.ld (iblk m c 0 t) r0_0) (View.ld (iblk m c 1 t) r0_1)) (View.ld (iblk m c 2 t) r0_7) (ix3 0 r e) = outV m c (((cfg0.win 5).blk t).view.emb (r0_8.idx (ix3 0 r e)))
    rw [rect_at (a := 1) 0 _ r e e (by simp), emb_v t r i hi]
    exact v_at r _ _ (lx_at m c t r i hi) (lg_at m c t) _ (fun k f => ld_at m c t 1280 (n := 256) (by omega) _ k f) e
  nomatch hpc

end Cert.Kernel4Ideal.Proj
end
-- ==== Proof.ProjRef.lean ====
module

public import proofs.«01_k».proof.Proof.PostRef
public import proofs.«01_k».proof.Proof.Gen.Reference4Ideal.Read
public import Idealize.ShloMosaic.Lib.Pointwise

@[expose] public section
set_option maxRecDepth 16384
noncomputable section

/-! The second layer's norm and projection, as its reference computes them. -/

namespace Cert.Reference4Ideal.Proj

open Cert.Reference4Ideal Cert.Reference4Ideal.Gen Cert.Reference4Ideal.Read Idealize.ShloMosaic Cert.Post
open Cert.Reference2Ideal.Post (vec mat tok)

variable (x0 : (⟨S16x2048x1024, .f32⟩ : BufTy).Contents (Elt Ideal)) (x1 : (⟨S1024, .f32⟩ : BufTy).Contents (Elt Ideal))
  (x2 : (⟨S1024x1536, .f32⟩ : BufTy).Contents (Elt Ideal))

/-- The norm. -/
theorem norm_at (b : Fin 16) (l : Fin 2048) (e : Fin 1024) : val_main_v12 (F := Ideal) x0 x1 (ix3 b l e) = rms (tok x0 b l) (vec x1) e := by
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise
  rfl

/-- The projection of token `i`, the batch's tokens counted through. -/
theorem proj_at (i : Fin 32768) (f : Fin 1536) : val_main_v14 (F := Ideal) x0 x1 x2 (ix3 0 i f)
    = lin (rms (tok x0 ⟨i.val / 2048, by omega⟩ ⟨i.val % 2048, by omega⟩) (vec x1)) (mat x2) f := by
  have hn := fun e => norm_at x0 x1 ⟨i.val / 2048, by omega⟩ ⟨i.val % 2048, by omega⟩ e
  unfold val_main_v14 val_main_v13
  generalize val_main_v12 (F := Ideal) x0 x1 = y at *
  pointwise
  simp only [hn]
  rfl

/-- The scaled queries. -/
theorem q_at (i : Fin 32768) (f : Fin 1024) : val_main_v20 (F := Ideal) x0 x1 x2 (ix3 0 i f)
    = lin (rms (tok x0 ⟨i.val / 2048, by omega⟩ ⟨i.val % 2048, by omega⟩) (vec x1)) (mat x2) ⟨f.val, by omega⟩ * Ideal.ofBits FTy.f32 0x3E38AA3B#32 := by
  have hp := proj_at x0 x1 x2 i ⟨f.val, by omega⟩
  unfold val_main_v20 val_main_v19 val_main_v18 val_main_cst_2 val_main_v15
  generalize val_main_v14 (F := Ideal) x0 x1 x2 = y at *
  pointwise
  rw [hp]

/-- The keys. -/
theorem k_at (i : Fin 32768) (f : Fin 256) : val_main_v16 (F := Ideal) x0 x1 x2 (ix3 0 i f)
    = lin (rms (tok x0 ⟨i.val / 2048, by omega⟩ ⟨i.val % 2048, by omega⟩) (vec x1)) (mat x2) ⟨1024 + f.val, by omega⟩ := by
  rw [← proj_at x0 x1 x2 i ⟨1024 + f.val, by omega⟩]
  unfold val_main_v16
  generalize val_main_v14 (F := Ideal) x0 x1 x2 = y at *
  pointwise

/-- The values. -/
theorem v_at (i : Fin 32768) (f : Fin 256) : val_main_v17 (F := Ideal) x0 x1 x2 (ix3 0 i f)
    = lin (rms (tok x0 ⟨i.val / 2048, by omega⟩ ⟨i.val % 2048, by omega⟩) (vec x1)) (mat x2) ⟨1280 + f.val, by omega⟩ := by
  rw [← proj_at x0 x1 x2 i ⟨1280 + f.val, by omega⟩]
  unfold val_main_v17
  generalize val_main_v14 (F := Ideal) x0 x1 x2 = y at *
  pointwise

end Cert.Reference4Ideal.Proj
end
-- ==== Proof.MemRunIdeal.lean ====
module

public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

/-! The run of the memory's norm and projection after idealization: the body stores each head's rows with a stride of the number of
heads, and the four stores together fill the block. -/

namespace Cert.Kernel5Ideal.Mem

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The whole block of tokens. -/
abbrev rx : Rect S1024x1024 := Rect.unit (s := S1024x1024) ![0, 0] S1024x1024.size inb_S1024x1024_S1024x1024_0_0
/-- The gain's row. -/
abbrev rg : Rect S1x1x1024 := Rect.unit (s := S1x1x1024) ![0, 0, 0] S1x1x1024.size inb_S1x1x1024_S1x1x1024_0_0_0
/-- The keys' columns of the weights. -/
abbrev rk : Rect S1x1024x1024 := Rect.unit (s := S1x1024x1024) ![0, 0, 0] S1x1024x512.size inb_S1x1024x1024_S1x1024x512_0_0_0
/-- The values'. -/
abbrev rv : Rect S1x1024x1024 := Rect.unit (s := S1x1024x1024) ![0, 0, 512] S1x1024x512.size inb_S1x1024x1024_S1x1024x512_0_0_512
/-- The rows of head 0 in a result's block, every fourth one. -/
abbrev h0 : Rect S1x4096x128 := ⟨(⟨![0, 0, 0], S1x1024x128.size, ![1, 4, 1], inb_S1x4096x128_S1x1024x128_0_0_0_s_1_4_1⟩ : LoadRect S1x4096x128), spos_1_4_1⟩
/-- Those of head 1. -/
abbrev h1 : Rect S1x4096x128 := ⟨(⟨![0, 1, 0], S1x1024x128.size, ![1, 4, 1], inb_S1x4096x128_S1x1024x128_0_1_0_s_1_4_1⟩ : LoadRect S1x4096x128), spos_1_4_1⟩
/-- Those of head 2. -/
abbrev h2 : Rect S1x4096x128 := ⟨(⟨![0, 2, 0], S1x1024x128.size, ![1, 4, 1], inb_S1x4096x128_S1x1024x128_0_2_0_s_1_4_1⟩ : LoadRect S1x4096x128), spos_1_4_1⟩
/-- Those of head 3. -/
abbrev h3 : Rect S1x4096x128 := ⟨(⟨![0, 3, 0], S1x1024x128.size, ![1, 4, 1], inb_S1x4096x128_S1x1024x128_0_3_0_s_1_4_1⟩ : LoadRect S1x4096x128), spos_1_4_1⟩

/-- A row whose number leaves the remainder `h` belongs to head `h`. -/
theorem mem_head (h : ℕ) (inb) (sp) (y : S1x4096x128.Idx) (hy : (y 1).val % 4 = h) :
    y ∈ ((⟨(⟨![0, h, 0], S1x1024x128.size, ![1, 4, 1], inb⟩ : LoadRect S1x4096x128), sp⟩ : Rect S1x4096x128)).set := by
  have h0 : (y 0).val < 1 := (y 0).isLt
  have h1 : (y 1).val < 4096 := (y 1).isLt
  have h2 : (y 2).val < 128 := (y 2).isLt
  refine LoadRect.mem_set _ |>.mpr fun a => ?_
  fin_cases a
  · exact ⟨0, by show 0 < 1; decide, by show (y 0).val = 0 + 1 * 0; omega⟩
  · exact ⟨(y 1).val / 4, by show (y 1).val / 4 < 1024; omega, by show (y 1).val = h + 4 * ((y 1).val / 4); omega⟩
  · exact ⟨(y 2).val, h2, by show (y 2).val = 0 + 1 * (y 2).val; omega⟩

/-- The four heads' rows fill the block. -/
theorem cover (p0 p1 p2 p3 : Vec F S1x1024x128 .f32) (y : S1x4096x128.Idx) :
    ∃ pc ∈ ([⟨h3, p3⟩, ⟨h2, p2⟩, ⟨h1, p1⟩, ⟨h0, p0⟩] : List (View.Piece (Elt F) S1x4096x128 .f32)), y ∈ pc.1.set := by
  have hm : (y 1).val % 4 < 4 := Nat.mod_lt _ (by decide)
  rcases (by omega : (y 1).val % 4 = 3 ∨ (y 1).val % 4 = 2 ∨ (y 1).val % 4 = 1 ∨ (y 1).val % 4 = 0) with h | h | h | h
  · exact ⟨⟨h3, p3⟩, by simp, mem_head 3 _ _ y h⟩
  · exact ⟨⟨h2, p2⟩, by simp, mem_head 2 _ _ y h⟩
  · exact ⟨⟨h1, p1⟩, by simp, mem_head 1 _ _ y h⟩
  · exact ⟨⟨h0, p0⟩, by simp, mem_head 0 _ _ y h⟩

/-- The keys' block after the body: four stores, the last first. -/
def outK (x0 : Vec F S1024x1024 .f32) (x1 : Vec F S1x1x1024 .f32) (x2 : Vec F S1x1024x1024 .bf16) : Vec F S1x4096x128 .f32 :=
  View.canon [⟨h3, k0_pay2 (k0_pay8 (View.ld x0 rx) (View.ld x1 rg) (View.ld x2 rk))⟩,
    ⟨h2, k0_pay1 (k0_pay12 (View.ld x0 rx) (View.ld x1 rg) (View.ld x2 rk))⟩,
    ⟨h1, k0_pay11 (View.ld x0 rx) (View.ld x1 rg) (View.ld x2 rk)⟩,
    ⟨h0, k0_pay10 (View.ld x0 rx) (View.ld x1 rg) (View.ld x2 rk)⟩]

/-- The values' block. -/
def outV (x0 : Vec F S1024x1024 .f32) (x1 : Vec F S1x1x1024 .f32) (x2 : Vec F S1x1024x1024 .bf16) : Vec F S1x4096x128 .f32 :=
  View.canon [⟨h3, k0_pay6 (k0_pay9 (View.ld x0 rx) (View.ld x1 rg) (View.ld x2 rv))⟩,
    ⟨h2, k0_pay5 (k0_pay9 (View.ld x0 rx) (View.ld x1 rg) (View.ld x2 rv))⟩,
    ⟨h1, k0_pay4 (k0_pay9 (View.ld x0 rx) (View.ld x1 rg) (View.ld x2 rv))⟩,
    ⟨h0, k0_pay3 (k0_pay9 (View.ld x0 rx) (View.ld x1 rg) (View.ld x2 rv))⟩]

set_option maxHeartbeats 1000000 in
/-- The body, from its inputs' blocks, leaves them as they are and the two results' blocks as above. -/
theorem sound_kernel (c : Dev nD) (E : Set ℕ) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1024x1024 .bf16) (harg4 : arg4.IsWhole) (arg5 : Memref sig .tc .vmem S1x4096x128 .f32) (harg5 : arg5.IsWhole) (arg6 : Memref sig .tc .vmem S1x4096x128 .f32) (harg6 : arg6.IsWhole)
    (x0 : Vec F S1024x1024 .f32) (x1 : Vec F S1x1x1024 .f32) (x2 : Vec F S1x1024x1024 .bf16) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outK x0 x1 x2) ∗ owns (c : Thread nD τ) arg6 fullShare (outV x0 x1 x2)) -∗ K ⟨⟩))
      ⊢ wp frame (wpE (defs₀ (F := F)) Variants.none c none) E (cc0_norm_matmul i arg2 harg2 arg3 harg3 arg4 harg4 arg5 harg5 arg6 harg6) K := by
  simp only [cc0_norm_matmul_eq_skeleton]; unfold cc0_norm_matmul_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover _ _ _ _)
  iexists _; isplitr
  swap; · iexact H4
  ipureintro
  exact View.read_writes_eq_canon _ _ _ (cover _ _ _ _)

/-- What the buffers hold after the body at each point of the grid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outK (iblk m c 0 t) (iblk m c 1 t) (iblk m c 2 t)
    | ⟨4, _⟩ => outV (iblk m c 0 t) (iblk m c 1 t) (iblk m c 2 t)
  Φ _ := Pipeline.ΦA spec0 c
  q _ := fullShare
  owed _ := 0

/-- The arrays are those the call finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outK (iblk m c 0 t) (iblk m c 1 t) (iblk m c 2 t) := by dsimp only [dats]
theorem after_4 (c : Dev nD) (t : Fin cfg0.N) : (dats m 0 c).after 4 t = outV (iblk m c 0 t) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body starts from at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The table's entry is the body at the point's buffers. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, with every semaphore at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are left alone, and every semaphore ends at zero. -/
theorem frame_mem : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The run with its two results named. -/
theorem run_blocks : θ_run defs (onTc (τ := τ) (main (F := F))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel5Ideal.Mem

end
-- ==== Proof.MemKernel.lean ====
module

public import proofs.«01_k».proof.Proof.PostMath
public import proofs.«01_k».proof.Proof.MemRunIdeal
public import Idealize.ShloMosaic.Lib.Pipeline.ValueKit
public import Idealize.ShloMosaic.Lib.Pointwise
public import Idealize.ShloMosaic.Lib.WholeRead

@[expose] public section

set_option maxRecDepth 16384

noncomputable section

/-! What the memory's norm and projection leave in their two results: row 4·i+h holds head h of token i. -/

namespace Cert.Kernel5Ideal.Mem

open Cert.Kernel5Ideal Cert.Kernel5Ideal.Gen Idealize.ShloMosaic Idealize.ShloMosaic.TcCoe Idealize.SL.Sem
open Idealize.ShloMosaic.Pipeline (Dat)
open Cert.Post

section Row
variable (r : Fin 1024) (v0 : Vec Ideal S1024x1024 .f32) (v2 : Vec Ideal S1x1x1024 .f32) {x g : Fin 1024 → EReal}
  (hx : ∀ e, v0 (ix2 r e) = x e) (hg : ∀ e, v2 (ix3 0 0 e) = g e)
include hx hg

/-- The norm. -/
theorem norm_at (e : Fin 1024) : k0_pay7 (F := Ideal) v0 v2 (ix2 r e) = rms x g e := by
  unfold k0_pay7
  pointwise
  simp only [hx, hg]
  rfl

variable (v : Vec Ideal S1x1024x512 .bf16) {w : Fin 1024 → Fin 512 → EReal} (hw : ∀ k f, v (ix3 0 k f) = w k f)
include hw

/-- The keys of all heads. -/
theorem keys_at (f : Fin 512) : k0_pay8 (F := Ideal) v0 v2 v (ix2 r f) = lin (rms x g) w f := by
  have hn := norm_at r v0 v2 hx hg
  unfold k0_pay8
  generalize k0_pay7 (F := Ideal) v0 v2 = y at *
  pointwise
  simp only [hn, hw]
  rfl

/-- The values of all heads. -/
theorem values_at (f : Fin 512) : k0_pay9 (F := Ideal) v0 v2 v (ix2 r f) = lin (rms x g) w f := by
  have hn := norm_at r v0 v2 hx hg
  unfold k0_pay9
  generalize k0_pay7 (F := Ideal) v0 v2 = y at *
  pointwise
  simp only [hn, hw]
  rfl

/-- The keys of head 0. -/
theorem k0_at (e : Fin 128) : k0_pay10 v0 v2 v (ix3 0 r e) = lin (rms x g) w ⟨0 + e.val, by omega⟩ := by
  have hn := keys_at r v0 v2 hx hg v hw ⟨0 + e.val, by omega⟩
  unfold k0_pay10
  generalize k0_pay8 (F := Ideal) v0 v2 v = y at *
  refine Eq.trans ?_ hn
  pointwise

/-- The values of head 0. -/
theorem v0_at (e : Fin 128) : k0_pay3 (k0_pay9 v0 v2 v) (ix3 0 r e) = lin (rms x g) w ⟨0 + e.val, by omega⟩ := by
  have hn := values_at r v0 v2 hx hg v hw ⟨0 + e.val, by omega⟩
  unfold k0_pay3
  generalize k0_pay9 (F := Ideal) v0 v2 v = y at *
  refine Eq.trans ?_ hn
  pointwise

/-- The keys of head 1. -/
theorem k1_at (e : Fin 128) : k0_pay11 v0 v2 v (ix3 0 r e) = lin (rms x g) w ⟨128 + e.val, by omega⟩ := by
  have hn := keys_at r v0 v2 hx hg v hw ⟨128 + e.val, by omega⟩
  unfold k0_pay11
  generalize k0_pay8 (F := Ideal) v0 v2 v = y at *
  refine Eq.trans ?_ hn
  pointwise

/-- The values of head 1. -/
theorem v1_at (e : Fin 128) : k0_pay4 (k0_pay9 v0 v2 v) (ix3 0 r e) = lin (rms x g) w ⟨128 + e.val, by omega⟩ := by
  have hn := values_at r v0 v2 hx hg v hw ⟨128 + e.val, by omega⟩
  unfold k0_pay4
  generalize k0_pay9 (F := Ideal) v0 v2 v = y at *
  refine Eq.trans ?_ hn
  pointwise

/-- The keys of head 2. -/
theorem k2_at (e : Fin 128) : k0_pay1 (k0_pay12 v0 v2 v) (ix3 0 r e) = lin (rms x g) w ⟨256 + e.val, by omega⟩ := by
  have hn := keys_at r v0 v2 hx hg v hw ⟨256 + e.val, by omega⟩
  unfold k0_pay1 k0_pay12
  generalize k0_pay8 (F := Ideal) v0 v2 v = y at *
  refine Eq.trans ?_ hn
  pointwise

/-- The values of head 2. -/
theorem v2_at (e : Fin 128) : k0_pay5 (k0_pay9 v0 v2 v) (ix3 0 r e) = lin (rms x g) w ⟨256 + e.val, by omega⟩ := by
  have hn := values_at r v0 v2 hx hg v hw ⟨256 + e.val, by omega⟩
  unfold k0_pay5
  generalize k0_pay9 (F := Ideal) v0 v2 v = y at *
  refine Eq.trans ?_ hn
  pointwise

/-- The keys of head 3. -/
theorem k3_at (e : Fin 128) : k0_pay2 (k0_pay8 v0 v2 v) (ix3 0 r e) = lin (rms x g) w ⟨384 + e.val, by omega⟩ := by
  have hn := keys_at r v0 v2 hx hg v hw ⟨384 + e.val, by omega⟩
  unfold k0_pay2
  generalize k0_pay8 (F := Ideal) v0 v2 v = y at *
  refine Eq.trans ?_ hn
  pointwise

/-- The values of head 3. -/
theorem v3_at (e : Fin 128) : k0_pay6 (k0_pay9 v0 v2 v) (ix3 0 r e) = lin (rms x g) w ⟨384 + e.val, by omega⟩ := by
  have hn := values_at r v0 v2 hx hg v hw ⟨384 + e.val, by omega⟩
  unfold k0_pay6
  generalize k0_pay9 (F := Ideal) v0 v2 v = y at *
  refine Eq.trans ?_ hn
  pointwise

end Row

variable (m : (ℓ : Loc nD τ sig) → Buf (Elt Ideal) ℓ)

/-- Which block of each array a grid point works on. -/
theorem idx : ∀ t : Fin cfg0.N, win0_0.index t = ![(grid0.coords t 1).val, 0]
    ∧ win0_1.index t = ![(grid0.coords t 0).val, 0, 0] ∧ win0_2.index t = ![(grid0.coords t 0).val, 0, 0]
    ∧ win0_3.index t = ![(grid0.coords t 0).val, (grid0.coords t 1).val, 0]
    ∧ win0_4.index t = ![(grid0.coords t 0).val, (grid0.coords t 1).val, 0] :=
  (by decide +kernel : ∀ t : Fin grid0.N, _)

/-- The row of memory token `i`, the batch's tokens counted through. -/
def argX (c : Dev nD) (i : Fin 4096) (e : Fin 1024) : EReal :=
  m ((c : Thread nD τ).loc main_arg0) (ix3 ⟨i.val / 256, by omega⟩ ⟨i.val % 256, by omega⟩ e)
/-- The gain of layer `s`. -/
def argG (c : Dev nD) (s : Fin 2) (e : Fin 1024) : EReal := m ((c : Thread nD τ).loc main_arg1) (ix2 s e)
/-- The weights of layer `s`. -/
def argW (c : Dev nD) (s : Fin 2) (k f : Fin 1024) : EReal := m ((c : Thread nD τ).loc main_arg2) (ix3 s k f)
/-- The keys and values of token `i`, side by side. -/
def row (c : Dev nD) (s : Fin 2) (i : Fin 4096) (f : Fin 1024) : EReal := lin (rms (argX m c i) (argG m c s)) (argW m c s) f

section Block
variable (c : Dev nD) (t : Fin cfg0.N) (s : Fin 2) (hs : s.val = (grid0.coords t 0).val)
include hs

/-- The gain. -/
theorem g_at (e : Fin 1024) : iblk m c 1 t (ix3 0 0 e) = argG m c s e := by
  have h : ((cfg0.win 1).blk t).view.emb (ix3 0 0 e) = ix3 s 0 e := by blk_ext [idx t]
  unfold iblk
  show V m c main_v2 (((cfg0.win 1).blk t).view.emb (ix3 0 0 e)) = _
  rw [h]; unfold argG; entry_read; pointwise

/-- The weights. -/
theorem w_at (k : Fin 1024) (f : Fin 1024) : iblk m c 2 t (ix3 0 k f) = argW m c s k f := by
  have h : ((cfg0.win 2).blk t).view.emb (ix3 0 k f) = ix3 s k f := by blk_ext [idx t]
  unfold iblk
  show V m c main_v1 (((cfg0.win 2).blk t).view.emb (ix3 0 k f)) = _
  rw [h]; unfold argW; entry_read; pointwise

/-- A load of some of the weights' columns. -/
theorem ld_at (o : ℕ) (ho : o + 512 ≤ 1024) (inb) (k : Fin 1024) (f : Fin 512) :
    View.ld (iblk m c 2 t) (Rect.unit (s := S1x1024x1024) ![0, 0, o] ![1, 1024, 512] inb) (ix3 0 k f) = argW m c s k ⟨o + f.val, by omega⟩ := by
  refine (View.ld_unit_apply_of (iblk m c 2 t) ![0, 0, o] ![1, 1024, 512] inb (ix3 0 k f) (ix3 0 k ⟨o + f.val, by omega⟩) ?_).trans (w_at m c t s hs k _)
  intro x; fin_cases x <;> simp [ix3]

/-- A load of the gain. -/
theorem lg_at (e : Fin 1024) : View.ld (iblk m c 1 t) rg (ix3 0 0 e) = argG m c s e :=
  (View.ld_unit_apply_of (iblk m c 1 t) ![0, 0, 0] S1x1x1024.size _ (ix3 0 0 e) (ix3 0 0 e) (by intro x; fin_cases x <;> simp [ix3])).trans (g_at m c t s hs e)

/-- Where the entries of the results' blocks lie. -/
theorem emb_k (p : Fin 4096) (q : Fin 16384) (hq : q.val = 4096 * (grid0.coords t 1).val + p) (e : Fin 128) :
    ((cfg0.win 3).blk t).view.emb (ix3 0 p e) = ix3 s q e := by
  blk_ext [idx t]
/-- The values'. -/
theorem emb_v (p : Fin 4096) (q : Fin 16384) (hq : q.val = 4096 * (grid0.coords t 1).val + p) (e : Fin 128) :
    ((cfg0.win 4).blk t).view.emb (ix3 0 p e) = ix3 s q e := by
  blk_ext [idx t]

end Block

section Block0
variable (c : Dev nD) (t : Fin cfg0.N)

/-- A token's row. -/
theorem x_at (r : Fin 1024) (i : Fin 4096) (hi : i.val = 1024 * (grid0.coords t 1).val + r) (e : Fin 1024) :
    iblk m c 0 t (ix2 r e) = argX m c i e := by
  have h : ((cfg0.win 0).blk t).view.emb (ix2 r e) = ix2 i e := by blk_ext [idx t]
  unfold iblk
  show V m c main_v0 (((cfg0.win 0).blk t).view.emb (ix2 r e)) = _
  rw [h]; unfold argX; entry_read; pointwise

/-- A load of a token's row. -/
theorem lx_at (r : Fin 1024) (i : Fin 4096) (hi : i.val = 1024 * (grid0.coords t 1).val + r) (e : Fin 1024) :
    View.ld (iblk m c 0 t) rx (ix2 r e) = argX m c i e :=
  (View.ld_unit_apply_of (iblk m c 0 t) ![0, 0] S1024x1024.size _ (ix2 r e) (ix2 r e) (by intro x; fin_cases x <;> simp [ix2])).trans (x_at m c t r i hi e)

end Block0

/-- An entry of a head's rows, in the block. -/
theorem head_at (h : ℕ) (inb) (sp) (r : Fin 1024) (e : Fin 128) (p : Fin 4096) (hp : p.val = 4 * r.val + h) :
    ((⟨(⟨![0, h, 0], S1x1024x128.size, ![1, 4, 1], inb⟩ : LoadRect S1x4096x128), sp⟩ : Rect S1x4096x128)).idx (ix3 0 r e) = (ix3 0 p e : S1x4096x128.Idx) := by
  refine funext fun x => Fin.ext ?_
  fin_cases x
  · rfl
  · show h + 4 * r.val = p.val; omega
  · show 0 + 1 * e.val = e.val; omega

/-- The keys the program leaves. -/
def resK (c : Dev nD) : Vec Ideal S2x16384x128 .f32 := fun j =>
  row m c (j 0) ⟨(j 1).val / 4, by have : (j 1).val < 16384 := (j 1).isLt; omega⟩ ⟨(j 1).val % 4 * 128 + (j 2).val, by have : (j 2).val < 128 := (j 2).isLt; omega⟩
/-- The values. -/
def resV (c : Dev nD) : Vec Ideal S2x16384x128 .f32 := fun j =>
  row m c (j 0) ⟨(j 1).val / 4, by have : (j 1).val < 16384 := (j 1).isLt; omega⟩ ⟨512 + ((j 1).val % 4 * 128 + (j 2).val), by have : (j 2).val < 128 := (j 2).isLt; omega⟩

theorem resK_at (c : Dev nD) (s : Fin 2) (q : Fin 16384) (e : Fin 128) (i : Fin 4096) (h : ℕ) (hh : h < 4) (hq : q.val = 4 * i.val + h) (f : Fin 1024)
    (hf : f.val = 0 + (128 * h + e.val)) : resK m c (ix3 s q e) = row m c s i f := by
  have h1 : i = ⟨q.val / 4, by omega⟩ := Fin.ext (by show i.val = q.val / 4; omega)
  have h2 : f = ⟨q.val % 4 * 128 + e.val, by omega⟩ := Fin.ext (by show f.val = q.val % 4 * 128 + e.val; omega)
  rw [h1, h2]; rfl
theorem resV_at (c : Dev nD) (s : Fin 2) (q : Fin 16384) (e : Fin 128) (i : Fin 4096) (h : ℕ) (hh : h < 4) (hq : q.val = 4 * i.val + h) (f : Fin 1024)
    (hf : f.val = 512 + (128 * h + e.val)) : resV m c (ix3 s q e) = row m c s i f := by
  have h1 : i = ⟨q.val / 4, by omega⟩ := Fin.ext (by show i.val = q.val / 4; omega)
  have h2 : f = ⟨512 + (q.val % 4 * 128 + e.val), by omega⟩ := Fin.ext (by show f.val = 512 + (q.val % 4 * 128 + e.val); omega)
  rw [h1, h2]; rfl

/-- The program's first result. -/
theorem finalK (c : Dev nD) : (dats m 0 c).arrAt 3 (cfgs 0).N = resK m c := by
  refine (dats m 0 c).arrAt_eq_of_covers 3 _ (by decide +kernel) fun t _ y => ?_
  have hi1 : (grid0.coords t 1).val < 4 := (grid0.coords t 1).isLt
  have hi0 : (grid0.coords t 0).val < 2 := (grid0.coords t 0).isLt
  obtain ⟨s, hs⟩ : ∃ s : Fin 2, s.val = (grid0.coords t 0).val := ⟨⟨_, hi0⟩, rfl⟩
  blk_simp
  rw [after_3]
  unfold outK
  refine View.canon_apply_of_pieces (fun y => resK m c (((cfg0.win 3).blk t).view.emb y)) _ ?_ y (cover _ _ _ _ y)
  intro pc hpc
  rcases List.mem_cons.mp hpc with rfl | hpc
  · intro x
    obtain ⟨x0, r, e, rfl⟩ : ∃ x0 r e, x = ix3 x0 r e := ⟨x 0, x 1, x 2, by ext a; fin_cases a <;> rfl⟩
    obtain rfl : x0 = 0 := Subsingleton.elim _ _
    obtain ⟨i, hi⟩ : ∃ i : Fin 4096, i.val = 1024 * (grid0.coords t 1).val + r.val := ⟨⟨_, by omega⟩, rfl⟩
    show k0_pay2 (k0_pay8 (View.ld (iblk m c 0 t) rx) (View.ld (iblk m c 1 t) rg) (View.ld (iblk m c 2 t) rk)) (ix3 0 r e) = resK m c (((cfg0.win 3).blk t).view.emb (h3.idx (ix3 0 r e)))
    rw [head_at 3 _ _ r e ⟨4 * r.val + 3, by omega⟩ rfl, emb_k t s hs _ ⟨4 * i.val + 3, by omega⟩ (by show 4 * i.val + 3 = 4096 * (grid0.coords t 1).val + (4 * r.val + 3); omega),
      resK_at m c s _ e i 3 (by decide) rfl ⟨0 + (384 + e.val), by omega⟩ (by rfl)]
    exact k3_at r _ _ (lx_at m c t r i hi) (lg_at m c t s hs) _ (fun k f => ld_at m c t s hs 0 (by decide) _ k f) e
  rcases List.mem_cons.mp hpc with rfl | hpc
  · intro x
    obtain ⟨x0, r, e, rfl⟩ : ∃ x0 r e, x = ix3 x0 r e := ⟨x 0, x 1, x 2, by ext a; fin_cases a <;> rfl⟩
    obtain rfl : x0 = 0 := Subsingleton.elim _ _
    obtain ⟨i, hi⟩ : ∃ i : Fin 4096, i.val = 1024 * (grid0.coords t 1).val + r.val := ⟨⟨_, by omega⟩, rfl⟩
    show k0_pay1 (k0_pay12 (View.ld (iblk m c 0 t) rx) (View.ld (iblk m c 1 t) rg) (View.ld (iblk m c 2 t) rk)) (ix3 0 r e) = resK m c (((cfg0.win 3).blk t).view.emb (h2.idx (ix3 0 r e)))
    rw [head_at 2 _ _ r e ⟨4 * r.val + 2, by omega⟩ rfl, emb_k t s hs _ ⟨4 * i.val + 2, by omega⟩ (by show 4 * i.val + 2 = 4096 * (grid0.coords t 1).val + (4 * r.val + 2); omega),
      resK_at m c s _ e i 2 (by decide) rfl ⟨0 + (256 + e.val), by omega⟩ (by rfl)]
    exact k2_at r _ _ (lx_at m c t r i hi) (lg_at m c t s hs) _ (fun k f => ld_at m c t s hs 0 (by decide) _ k f) e
  rcases List.mem_cons.mp hpc with rfl | hpc
  · intro x
    obtain ⟨x0, r, e, rfl⟩ : ∃ x0 r e, x = ix3 x0 r e := ⟨x 0, x 1, x 2, by ext a; fin_cases a <;> rfl⟩
    obtain rfl : x0 = 0 := Subsingleton.elim _ _
    obtain ⟨i, hi⟩ : ∃ i : Fin 4096, i.val = 1024 * (grid0.coords t 1).val + r.val := ⟨⟨_, by omega⟩, rfl⟩
    show k0_pay11 (View.ld (iblk m c 0 t) rx) (View.ld (iblk m c 1 t) rg) (View.ld (iblk m c 2 t) rk) (ix3 0 r e) = resK m c (((cfg0.win 3).blk t).view.emb (h1.idx (ix3 0 r e)))
    rw [head_at 1 _ _ r e ⟨4 * r.val + 1, by omega⟩ rfl, emb_k t s hs _ ⟨4 * i.val + 1, by omega⟩ (by show 4 * i.val + 1 = 4096 * (grid0.coords t 1).val + (4 * r.val + 1); omega),
      resK_at m c s _ e i 1 (by decide) rfl ⟨0 + (128 + e.val), by omega⟩ (by rfl)]
    exact k1_at r _ _ (lx_at m c t r i hi) (lg_at m c t s hs) _ (fun k f => ld_at m c t s hs 0 (by decide) _ k f) e
  rcases List.mem_cons.mp hpc with rfl | hpc
  · intro x
    obtain ⟨x0, r, e, rfl⟩ : ∃ x0 r e, x = ix3 x0 r e := ⟨x 0, x 1, x 2, by ext a; fin_cases a <;> rfl⟩
    obtain rfl : x0 = 0 := Subsingleton.elim _ _
    obtain ⟨i, hi⟩ : ∃ i : Fin 4096, i.val = 1024 * (grid0.coords t 1).val + r.val := ⟨⟨_, by omega⟩, rfl⟩
    show k0_pay10 (View.ld (iblk m c 0 t) rx) (View.ld (iblk m c 1 t) rg) (View.ld (iblk m c 2 t) rk) (ix3 0 r e) = resK m c (((cfg0.win 3).blk t).view.emb (h0.idx (ix3 0 r e)))
    rw [head_at 0 _ _ r e ⟨4 * r.val + 0, by omega⟩ rfl, emb_k t s hs _ ⟨4 * i.val + 0, by omega⟩ (by show 4 * i.val + 0 = 4096 * (grid0.coords t 1).val + (4 * r.val + 0); omega),
      resK_at m c s _ e i 0 (by decide) rfl ⟨0 + (0 + e.val), by omega⟩ (by rfl)]
    exact k0_at r _ _ (lx_at m c t r i hi) (lg_at m c t s hs) _ (fun k f => ld_at m c t s hs 0 (by decide) _ k f) e
  nomatch hpc

/-- The program's second result. -/
theorem finalV (c : Dev nD) : (dats m 0 c).arrAt 4 (cfgs 0).N = resV m c := by
  refine (dats m 0 c).arrAt_eq_of_covers 4 _ (by decide +kernel) fun t _ y => ?_
  have hi1 : (grid0.coords t 1).val < 4 := (grid0.coords t 1).isLt
  have hi0 : (grid0.coords t 0).val < 2 := (grid0.coords t 0).isLt
  obtain ⟨s, hs⟩ : ∃ s : Fin 2, s.val = (grid0.coords t 0).val := ⟨⟨_, hi0⟩, rfl⟩
  blk_simp
  rw [after_4]
  unfold outV
  refine View.canon_apply_of_pieces (fun y => resV m c (((cfg0.win 4).blk t).view.emb y)) _ ?_ y (cover _ _ _ _ y)
  intro pc hpc
  rcases List.mem_cons.mp hpc with rfl | hpc
  · intro x
    obtain ⟨x0, r, e, rfl⟩ : ∃ x0 r e, x = ix3 x0 r e := ⟨x 0, x 1, x 2, by ext a; fin_cases a <;> rfl⟩
    obtain rfl : x0 = 0 := Subsingleton.elim _ _
    obtain ⟨i, hi⟩ : ∃ i : Fin 4096, i.val = 1024 * (grid0.coords t 1).val + r.val := ⟨⟨_, by omega⟩, rfl⟩
    show k0_pay6 (k0_pay9 (View.ld (iblk m c 0 t) rx) (View.ld (iblk m c 1 t) rg) (View.ld (iblk m c 2 t) rv)) (ix3 0 r e) = resV m c (((cfg0.win 4).blk t).view.emb (h3.idx (ix3 0 r e)))
    rw [head_at 3 _ _ r e ⟨4 * r.val + 3, by omega⟩ rfl, emb_v t s hs _ ⟨4 * i.val + 3, by omega⟩ (by show 4 * i.val + 3 = 4096 * (grid0.coords t 1).val + (4 * r.val + 3); omega),
      resV_at m c s _ e i 3 (by decide) rfl ⟨512 + (384 + e.val), by omega⟩ (by rfl)]
    exact v3_at r _ _ (lx_at m c t r i hi) (lg_at m c t s hs) _ (fun k f => ld_at m c t s hs 512 (by decide) _ k f) e
  rcases List.mem_cons.mp hpc with rfl | hpc
  · intro x
    obtain ⟨x0, r, e, rfl⟩ : ∃ x0 r e, x = ix3 x0 r e := ⟨x 0, x 1, x 2, by ext a; fin_cases a <;> rfl⟩
    obtain rfl : x0 = 0 := Subsingleton.elim _ _
    obtain ⟨i, hi⟩ : ∃ i : Fin 4096, i.val = 1024 * (grid0.coords t 1).val + r.val := ⟨⟨_, by omega⟩, rfl⟩
    show k0_pay5 (k0_pay9 (View.ld (iblk m c 0 t) rx) (View.ld (iblk m c 1 t) rg) (View.ld (iblk m c 2 t) rv)) (ix3 0 r e) = resV m c (((cfg0.win 4).blk t).view.emb (h2.idx (ix3 0 r e)))
    rw [head_at 2 _ _ r e ⟨4 * r.val + 2, by omega⟩ rfl, emb_v t s hs _ ⟨4 * i.val + 2, by omega⟩ (by show 4 * i.val + 2 = 4096 * (grid0.coords t 1).val + (4 * r.val + 2); omega),
      resV_at m c s _ e i 2 (by decide) rfl ⟨512 + (256 + e.val), by omega⟩ (by rfl)]
    exact v2_at r _ _ (lx_at m c t r i hi) (lg_at m c t s hs) _ (fun k f => ld_at m c t s hs 512 (by decide) _ k f) e
  rcases List.mem_cons.mp hpc with rfl | hpc
  · intro x
    obtain ⟨x0, r, e, rfl⟩ : ∃ x0 r e, x = ix3 x0 r e := ⟨x 0, x 1, x 2, by ext a; fin_cases a <;> rfl⟩
    obtain rfl : x0 = 0 := Subsingleton.elim _ _
    obtain ⟨i, hi⟩ : ∃ i : Fin 4096, i.val = 1024 * (grid0.coords t 1).val + r.val := ⟨⟨_, by omega⟩, rfl⟩
    show k0_pay4 (k0_pay9 (View.ld (iblk m c 0 t) rx) (View.ld (iblk m c 1 t) rg) (View.ld (iblk m c 2 t) rv)) (ix3 0 r e) = resV m c (((cfg0.win 4).blk t).view.emb (h1.idx (ix3 0 r e)))
    rw [head_at 1 _ _ r e ⟨4 * r.val + 1, by omega⟩ rfl, emb_v t s hs _ ⟨4 * i.val + 1, by omega⟩ (by show 4 * i.val + 1 = 4096 * (grid0.coords t 1).val + (4 * r.val + 1); omega),
      resV_at m c s _ e i 1 (by decide) rfl ⟨512 + (128 + e.val), by omega⟩ (by rfl)]
    exact v1_at r _ _ (lx_at m c t r i hi) (lg_at m c t s hs) _ (fun k f => ld_at m c t s hs 512 (by decide) _ k f) e
  rcases List.mem_cons.mp hpc with rfl | hpc
  · intro x
    obtain ⟨x0, r, e, rfl⟩ : ∃ x0 r e, x = ix3 x0 r e := ⟨x 0, x 1, x 2, by ext a; fin_cases a <;> rfl⟩
    obtain rfl : x0 = 0 := Subsingleton.elim _ _
    obtain ⟨i, hi⟩ : ∃ i : Fin 4096, i.val = 1024 * (grid0.coords t 1).val + r.val := ⟨⟨_, by omega⟩, rfl⟩
    show k0_pay3 (k0_pay9 (View.ld (iblk m c 0 t) rx) (View.ld (iblk m c 1 t) rg) (View.ld (iblk m c 2 t) rv)) (ix3 0 r e) = resV m c (((cfg0.win 4).blk t).view.emb (h0.idx (ix3 0 r e)))
    rw [head_at 0 _ _ r e ⟨4 * r.val + 0, by omega⟩ rfl, emb_v t s hs _ ⟨4 * i.val + 0, by omega⟩ (by show 4 * i.val + 0 = 4096 * (grid0.coords t 1).val + (4 * r.val + 0); omega),
      resV_at m c s _ e i 0 (by decide) rfl ⟨512 + (0 + e.val), by omega⟩ (by rfl)]
    exact v0_at r _ _ (lx_at m c t r i hi) (lg_at m c t s hs) _ (fun k f => ld_at m c t s hs 512 (by decide) _ k f) e
  nomatch hpc

end Cert.Kernel5Ideal.Mem
end
-- ==== Proof.MemRef.lean ====
module

public import proofs.«01_k».proof.Proof.PostRef
public import proofs.«01_k».proof.Proof.Gen.Reference5Ideal.Read
public import Idealize.ShloMosaic.Lib.Pointwise

@[expose] public section
set_option maxRecDepth 16384
noncomputable section

/-! The memory's keys and values of both layers, as their reference computes them. -/

namespace Cert.Reference5Ideal.Mem

open Cert.Reference5Ideal Cert.Reference5Ideal.Gen Cert.Reference5Ideal.Read Idealize.ShloMosaic Cert.Post

variable (x0 : (⟨S16x256x1024, .f32⟩ : BufTy).Contents (Elt Ideal)) (x1 : (⟨S2x1024, .f32⟩ : BufTy).Contents (Elt Ideal))
  (x2 : (⟨S2x1024x1024, .f32⟩ : BufTy).Contents (Elt Ideal))

/-- The normed row of memory token `l` of sequence `b` in layer `s`. -/
abbrev normed (s : Fin 2) (b : Fin 16) (l : Fin 256) : Fin 1024 → EReal := rms (fun e => x0 (ix3 b l e)) (fun e => x1 (ix2 s e))
/-- Its keys and values, side by side. -/
abbrev proj (s : Fin 2) (b : Fin 16) (l : Fin 256) : Fin 1024 → EReal := lin (normed x0 x1 s b l) fun k f => x2 (ix3 s k f)

/-- The first layer's norm. -/
theorem norm0_at (b : Fin 16) (l : Fin 256) (e : Fin 1024) : val_main_v14 (F := Ideal) x0 x1 (ix3 b l e) = normed x0 x1 0 b l e := by
  unfold val_main_v14 val_main_v13 val_main_v12 val_main_v11 val_main_v10 val_main_v9 val_main_v8 val_main_v7 val_main_cst_1 val_main_v6 val_main_v5 val_main_cst_0 val_main_v4 val_main_v3 val_main_cst val_main_v2 val_main_v1 val_main_v0
  pointwise
  rfl

/-- The second's. -/
theorem norm1_at (b : Fin 16) (l : Fin 256) (e : Fin 1024) : val_main_v34 (F := Ideal) x0 x1 (ix3 b l e) = normed x0 x1 1 b l e := by
  unfold val_main_v34 val_main_v33 val_main_v32 val_main_v31 val_main_v30 val_main_v29 val_main_v28 val_main_v27 val_main_cst_4 val_main_v26 val_main_v25 val_main_cst_3 val_main_v24 val_main_v23 val_main_cst_2 val_main_v22 val_main_v21 val_main_v20
  pointwise
  rfl

/-- The first layer's projection. -/
theorem proj0_at (b : Fin 16) (l : Fin 256) (f : Fin 1024) : val_main_v17 (F := Ideal) x0 x1 x2 (ix3 b l f) = proj x0 x1 x2 0 b l f := by
  have hn := norm0_at x0 x1 b l
  unfold val_main_v17 val_main_v16 val_main_v15
  generalize val_main_v14 (F := Ideal) x0 x1 = y at *
  pointwise
  simp only [hn]
  rfl

/-- The second's. -/
theorem proj1_at (b : Fin 16) (l : Fin 256) (f : Fin 1024) : val_main_v37 (F := Ideal) x0 x1 x2 (ix3 b l f) = proj x0 x1 x2 1 b l f := by
  have hn := norm1_at x0 x1 b l
  unfold val_main_v37 val_main_v36 val_main_v35
  generalize val_main_v34 (F := Ideal) x0 x1 = y at *
  pointwise
  simp only [hn]
  rfl

/-- The keys of both layers. -/
theorem k4_at (s : Fin 2) (b : Fin 16) (l : Fin 256) (f : Fin 512) : val_main_v42 (F := Ideal) x0 x1 x2 (ix4 s b l f) = proj x0 x1 x2 s b l ⟨f.val, by omega⟩ := by
  have h0 := proj0_at x0 x1 x2 b l ⟨f.val, by omega⟩
  have h1 := proj1_at x0 x1 x2 b l ⟨f.val, by omega⟩
  unfold val_main_v42 val_main_v41 val_main_v40 val_main_v38 val_main_v18
  generalize val_main_v17 (F := Ideal) x0 x1 x2 = y0 at *
  generalize val_main_v37 (F := Ideal) x0 x1 x2 = y1 at *
  obtain rfl | rfl : s = 0 ∨ s = 1 := by omega
  · refine Eq.trans ?_ h0; pointwise
  · refine Eq.trans ?_ h1; pointwise

/-- The values of both layers. -/
theorem v4_at (s : Fin 2) (b : Fin 16) (l : Fin 256) (f : Fin 512) : val_main_v45 (F := Ideal) x0 x1 x2 (ix4 s b l f) = proj x0 x1 x2 s b l ⟨512 + f.val, by omega⟩ := by
  have h0 := proj0_at x0 x1 x2 b l ⟨512 + f.val, by omega⟩
  have h1 := proj1_at x0 x1 x2 b l ⟨512 + f.val, by omega⟩
  unfold val_main_v45 val_main_v44 val_main_v43 val_main_v39 val_main_v19
  generalize val_main_v17 (F := Ideal) x0 x1 x2 = y0 at *
  generalize val_main_v37 (F := Ideal) x0 x1 x2 = y1 at *
  obtain rfl | rfl : s = 0 ∨ s = 1 := by omega
  · refine Eq.trans ?_ h0; pointwise
  · refine Eq.trans ?_ h1; pointwise

/-- The first result: rows are pairs of a token and a head. -/
theorem k_at (s : Fin 2) (p : Fin 16384) (e : Fin 128) : val_main_v46 (F := Ideal) x0 x1 x2 (ix3 s p e)
    = proj x0 x1 x2 s ⟨p.val / 4 / 256, by omega⟩ ⟨p.val / 4 % 256, by omega⟩ ⟨p.val % 4 * 128 + e.val, by omega⟩ := by
  rw [← k4_at x0 x1 x2 s _ _ ⟨p.val % 4 * 128 + e.val, by omega⟩]
  unfold val_main_v46
  refine shapeCast_apply _ _ _ _ ?_
  rw [Shape.rowMajor_val_three, Shape.rowMajor_val_four]
  show ((s.val * 16 + p.val / 4 / 256) * 256 + p.val / 4 % 256) * 512 + (p.val % 4 * 128 + e.val) = (s.val * 16384 + p.val) * 128 + e.val
  omega

/-- The second. -/
theorem v_at (s : Fin 2) (p : Fin 16384) (e : Fin 128) : val_main_v47 (F := Ideal) x0 x1 x2 (ix3 s p e)
    = proj x0 x1 x2 s ⟨p.val / 4 / 256, by omega⟩ ⟨p.val / 4 % 256, by omega⟩ ⟨512 + (p.val % 4 * 128 + e.val), by omega⟩ := by
  rw [← v4_at x0 x1 x2 s _ _ ⟨p.val % 4 * 128 + e.val, by omega⟩]
  unfold val_main_v47
  refine shapeCast_apply _ _ _ _ ?_
  rw [Shape.rowMajor_val_three, Shape.rowMajor_val_four]
  show ((s.val * 16 + p.val / 4 / 256) * 256 + p.val / 4 % 256) * 512 + (p.val % 4 * 128 + e.val) = (s.val * 16384 + p.val) * 128 + e.val
  omega

end Cert.Reference5Ideal.Mem
end
-- ==== Proof.Finite.lean ====
module

public import proofs.«01_k».proof.Pre_finite
public import proofs.«01_k».proof.Pre_finite2
public import proofs.«01_k».proof.Pre_finite3
public import Idealize.ShloMosaic.Lib.ReduceAll
public import Idealize.ShloMosaic.Lib.Pointwise
public import Idealize.ShloMosaic.PureOps.Ideal.Laws

@[expose] public section
set_option maxRecDepth 16384
noncomputable section

namespace Cert.Fox

open Idealize.ShloMosaic

/-- A number whose absolute value is below infinity is a real number. -/
theorem real_of_lt (x : EReal) (h : Ideal.cmp .olt (max x (-x)) (Ideal.ofBits .f32 2139095040#32) = 1#1) : x = ((x.toReal : ℝ) : EReal) := by
  have e : Ideal.ofBits .f32 2139095040#32 = (⊤ : EReal) := by simp [Ideal.ofBits, Ideal.ieee]
  rw [e] at h
  have hl : max x (-x) < ⊤ := by
    by_contra hn
    simp [Ideal.cmp, hn] at h
  rw [max_lt_iff] at hl
  refine (EReal.coe_toReal hl.1.ne fun hb => ?_).symm
  rw [hb] at hl
  exact absurd hl.2 (by simp)

/-- A conjunction of bits is set only where all three of them are. -/
theorem and_three (A B C : BitVec 1) (h : IntOp.andi (IntOp.andi A B) C = 1#1) : A = 1#1 ∧ B = 1#1 ∧ C = 1#1 := by
  revert A B C
  decide

variable [Cert.Pre_finite.Facts]

/-- The precondition says that the queries, the keys and the log-forgets are real numbers. -/
theorem finite_all (x0 x1 x2 : FVec Ideal Cert.Pre_finite.S16x2048x512 .f32) (x3 : FVec Ideal Cert.Pre_finite.S16x4x2048 .f32)
    (h : Cert.Pre_finite.fn (F := Ideal) x0 x1 x2 x3 = fun _ => 1#1) :
    (∀ i, (x0 i : EReal) = ((EReal.toReal (x0 i) : ℝ) : EReal)) ∧ (∀ i, (x1 i : EReal) = ((EReal.toReal (x1 i) : ℝ) : EReal)) ∧ ∀ i, (x3 i : EReal) = ((EReal.toReal (x3 i) : ℝ) : EReal) := by
  have h0 := congrFun h ix0
  dsimp only [Cert.Pre_finite.fn] at h0
  obtain ⟨a, b, d⟩ := and_three _ _ _ h0
  refine ⟨fun i => ?_, fun i => ?_, fun i => ?_⟩
  · exact real_of_lt _ (Host.reduce_andi_all _ _ _ _ _ a i)
  · exact real_of_lt _ (Host.reduce_andi_all _ _ _ _ _ b i)
  · exact real_of_lt _ (Host.reduce_andi_all _ _ _ _ _ d i)

variable [Cert.Pre_finite2.Facts]

/-- The second precondition says that the gain, the queries' weights and the layer's memory keys are real numbers. -/
theorem finite_all2 (x0 x1 : FVec Ideal Cert.Pre_finite2.S16x2048x1024 .f32) (x2 : FVec Ideal Cert.Pre_finite2.S1024x1024 .f32)
    (x3 : FVec Ideal Cert.Pre_finite2.S1024 .f32) (x4 : FVec Ideal Cert.Pre_finite2.S1024x512 .f32)
    (x5 x6 : FVec Ideal Cert.Pre_finite2.S2x16x256x4x128 .f32) (x7 : FVec Ideal Cert.Pre_finite2.S512x1024 .f32)
    (x8 : FVec Ideal Cert.Pre_finite2.S1024 .f32) (x9 : FVec Ideal Cert.Pre_finite2.S1024x4096 .f32)
    (x10 : FVec Ideal Cert.Pre_finite2.S4096x1024 .f32) (x11 : FVec Ideal Cert.Pre_finite2.S1024 .f32)
    (h : Cert.Pre_finite2.fn (F := Ideal) x0 x1 x2 x3 x4 x5 x6 x7 x8 x9 x10 x11 = fun _ => 1#1) :
    (∀ e, ∃ r : ℝ, (x3 (ix1 e) : EReal) = r) ∧ (∀ k f, ∃ r : ℝ, (x4 (ix2 k f) : EReal) = r)
      ∧ ∀ b j h d, ∃ r : ℝ, (x5 (ix5 1 b j h d) : EReal) = r := by
  have h0 := congrFun h ix0
  dsimp only [Cert.Pre_finite2.fn] at h0
  obtain ⟨a0, a1, a2⟩ := and_three _ _ _ h0
  refine ⟨fun e => ⟨_, real_of_lt _ (Host.reduce_andi_all _ _ _ _ _ a0 _)⟩, fun k f => ⟨_, real_of_lt _ (Host.reduce_andi_all _ _ _ _ _ a1 _)⟩,
    fun b j h d => ?_⟩
  have e := real_of_lt _ (Host.reduce_andi_all _ _ _ _ _ a2 (ix5 0 b j h d))
  pointwise at e
  exact ⟨_, e⟩

variable [Cert.Pre_finite3.Facts]

/-- The third precondition says the same for the first layer. -/
theorem finite_all3 (x0 : FVec Ideal Cert.Pre_finite3.S16x2048x1024 .f32) (x1 x2 : FVec Ideal Cert.Pre_finite3.S16x2048x512 .f32)
    (x3 : FVec Ideal Cert.Pre_finite3.S1024x1024 .f32) (x4 : FVec Ideal Cert.Pre_finite3.S1024 .f32) (x5 : FVec Ideal Cert.Pre_finite3.S1024x512 .f32)
    (x6 x7 : FVec Ideal Cert.Pre_finite3.S2x16x256x4x128 .f32) (x8 : FVec Ideal Cert.Pre_finite3.S512x1024 .f32)
    (x9 : FVec Ideal Cert.Pre_finite3.S1024 .f32) (x10 : FVec Ideal Cert.Pre_finite3.S1024x4096 .f32)
    (x11 : FVec Ideal Cert.Pre_finite3.S4096x1024 .f32)
    (h : Cert.Pre_finite3.fn (F := Ideal) x0 x1 x2 x3 x4 x5 x6 x7 x8 x9 x10 x11 = fun _ => 1#1) :
    (∀ e, ∃ r : ℝ, (x4 (ix1 e) : EReal) = r) ∧ (∀ k f, ∃ r : ℝ, (x5 (ix2 k f) : EReal) = r)
      ∧ ∀ b j h d, ∃ r : ℝ, (x6 (ix5 0 b j h d) : EReal) = r := by
  have h0 := congrFun h ix0
  dsimp only [Cert.Pre_finite3.fn] at h0
  obtain ⟨a0, a1, a2⟩ := and_three _ _ _ h0
  refine ⟨fun e => ⟨_, real_of_lt _ (Host.reduce_andi_all _ _ _ _ _ a0 _)⟩, fun k f => ⟨_, real_of_lt _ (Host.reduce_andi_all _ _ _ _ _ a1 _)⟩,
    fun b j h d => ?_⟩
  have e := real_of_lt _ (Host.reduce_andi_all _ _ _ _ _ a2 (ix5 0 b j h d))
  pointwise at e
  exact ⟨_, e⟩

end Cert.Fox
end
-- ==== Proof.lean ====
/- The certificate of the statement: for each of the five kernels, that kernel, idealized kernel and reference run
   without a fault and leave their arguments alone, that the idealization keeps the kernel's meaning, and that idealized
   kernel and reference return the same arrays. What the kernels compute is read in `Proof/KernelValue.lean`,
   `Proof/PostKernel.lean`, `Proof/Post3Kernel.lean`, `Proof/ProjKernel.lean` and `Proof/MemKernel.lean`, what the
   references compute in `Proof/RefValue.lean`, `Proof/PostRef.lean`, `Proof/Post3Ref.lean`, `Proof/ProjRef.lean` and
   `Proof/MemRef.lean`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite3
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.KernelValue
public import proofs.«01_k».proof.Proof.RefValue
public import proofs.«01_k».proof.Proof.PostKernel
public import proofs.«01_k».proof.Proof.PostRef
public import proofs.«01_k».proof.Proof.Post3Kernel
public import proofs.«01_k».proof.Proof.Post3Ref
public import proofs.«01_k».proof.Proof.ProjKernel
public import proofs.«01_k».proof.Proof.ProjRef
public import proofs.«01_k».proof.Proof.MemRun
public import proofs.«01_k».proof.Proof.MemKernel
public import proofs.«01_k».proof.Proof.MemRef
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphores to leave set. -/
theorem frame_ref : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run (F := Ideal) m g)

/-- Kernel and reference return the same array: both are the forgetting attention. -/
theorem algebraic : Cert.algebraic_KernelIdeal_ReferenceIdeal_pre_finite := by
  pair_intro
  · run_from Cert.KernelIdeal.Value.run_blocks m g
  · run_from Cert.ReferenceIdeal.Value.run m' g'
    obtain ⟨hq, hk, hf⟩ := Cert.Fox.finite_all _ _ _ _ (hpre c)
    refine Eq.trans ?_ (Cert.KernelIdeal.Fox.final m c (fun b i j => hq _) (fun b i j => hk _) (fun b i j => hf _)).symm
    rw [Cert.ReferenceIdeal.Read.val_main_v34_eq]
    obtain ⟨h0, h1, h2, h3⟩ := hagree c
    rw [h0, h1, h2, h3]
    funext j
    have ej : j = ix3 (j 0) (j 1) (j 2) := by funext a; fin_cases a <;> rfl
    rw [ej]
    exact Cert.ReferenceIdeal.Fox.ref_at _ _ _ _ (fun b i j => hq _) (fun b i j => hk _) (fun b i j => hf _) (j 0) (j 1) (j 2)

/-- The second reference runs, leaves its arguments as they were, and has no semaphores to leave set. -/
theorem frame_ref2 : Cert.quiescent_Reference2Ideal := by
  intro m g _
  exact (θ_run Cert.Reference2Ideal.defs _ _).mono
    (fun r h => ⟨fun c => (h c).2, sem_eq_zero_of_no_sems (by decide) r.2⟩) (Cert.Reference2Ideal.Value.run (F := Ideal) m g)

/-- Kernel and reference of the last layer's second half return the same array. -/
theorem algebraic2 : Cert.algebraic_Kernel2Ideal_Reference2Ideal_pre_finite2 := by
  pair_intro
  · run_from Cert.Kernel2Ideal.Value.run_blocks m g
  · run_from Cert.Reference2Ideal.Value.run m' g'
    obtain ⟨fg, fq, fk⟩ := Cert.Fox.finite_all2 _ _ _ _ _ _ _ _ _ _ _ _ (hpre c)
    refine Eq.trans ?_ (Cert.Kernel2Ideal.Post.final m c fg fq fk).symm
    obtain ⟨h0, h1, h2, h3, h4, h5, h6, h7, h8, h9, h10, h11⟩ := hagree c
    rw [← h11]
    refine (Cert.Reference2Ideal.Read.val_main_v70_eq (StableHlo.launchContents m' c)).trans ?_
    show Cert.Reference2Ideal.Read.val_main_v70 (m' (c.tc.loc Cert.Reference2Ideal.main_arg0)) (m' (c.tc.loc Cert.Reference2Ideal.main_arg1))
      (m' (c.tc.loc Cert.Reference2Ideal.main_arg2)) (m' (c.tc.loc Cert.Reference2Ideal.main_arg3)) (m' (c.tc.loc Cert.Reference2Ideal.main_arg4))
      (m' (c.tc.loc Cert.Reference2Ideal.main_arg5)) (m' (c.tc.loc Cert.Reference2Ideal.main_arg6)) (m' (c.tc.loc Cert.Reference2Ideal.main_arg7))
      (m' (c.tc.loc Cert.Reference2Ideal.main_arg8)) (m' (c.tc.loc Cert.Reference2Ideal.main_arg9)) (m' (c.tc.loc Cert.Reference2Ideal.main_arg10))
      (m' (c.tc.loc Cert.Reference2Ideal.main_arg11)) = _
    rw [h0, h1, h2, h3, h4, h5, h6, h7, h8, h9, h10, h11]
    funext j
    have ej : j = ix3 (j 0) (j 1) (j 2) := by funext a; fin_cases a <;> rfl
    rw [ej]
    exact Cert.Reference2Ideal.Post.ref_at _ _ _ _ _ _ _ _ _ _ _ _ (j 0) (j 1) (j 2)

/-- The third reference runs, leaves its arguments as they were, and has no semaphores to leave set. -/
theorem frame_ref3 : Cert.quiescent_Reference3Ideal := by
  intro m g _
  exact (θ_run Cert.Reference3Ideal.defs _ _).mono
    (fun r h => ⟨fun c => (h c).2, sem_eq_zero_of_no_sems (by decide) r.2⟩) (Cert.Reference3Ideal.Value.run (F := Ideal) m g)

/-- Kernel and reference of the first layer's second half return the same array. -/
theorem algebraic3 : Cert.algebraic_Kernel3Ideal_Reference3Ideal_pre_finite3 := by
  pair_intro
  · run_from Cert.Kernel3Ideal.Value.run_blocks m g
  · run_from Cert.Reference3Ideal.Value.run m' g'
    obtain ⟨fg, fq, fk⟩ := Cert.Fox.finite_all3 _ _ _ _ _ _ _ _ _ _ _ _ (hpre c)
    refine Eq.trans ?_ (Cert.Kernel3Ideal.Post.final m c fg fq fk).symm
    obtain ⟨h0, h1, h2, h3, h4, h5, h6, h7, h8, h9, h10, h11⟩ := hagree c
    rw [Cert.Reference3Ideal.Read.val_main_v58_eq]
    rw [h0, h1, h2, h3, h4, h5, h6, h7, h8, h9, h10, h11]
    funext j
    have ej : j = ix3 (j 0) (j 1) (j 2) := by funext a; fin_cases a <;> rfl
    rw [ej]
    exact Cert.Reference3Ideal.Post.ref_at _ _ _ _ _ _ _ _ _ _ _ _ (j 0) (j 1) (j 2)

/-- The fourth reference runs, leaves its arguments as they were, and has no semaphores to leave set. -/
theorem frame_ref4 : Cert.quiescent_Reference4Ideal := by
  intro m g _
  exact (θ_run Cert.Reference4Ideal.defs _ _).mono
    (fun r h => ⟨fun c => (h c).2.2.2, sem_eq_zero_of_no_sems (by decide) r.2⟩) (Cert.Reference4Ideal.Value.run (F := Ideal) m g)

/-- Kernel and reference of the last layer's norm and projection return the same queries, keys and values. -/
theorem algebraic4 : Cert.algebraic_Kernel4Ideal_Reference4Ideal := by
  pair_intro
  · run_from Cert.Kernel4Ideal.Value.run_blocks m g
  · run_from Cert.Reference4Ideal.Value.run m' g'
    · refine Eq.trans ?_ (Cert.Kernel4Ideal.Proj.finalQ m c).symm
      rw [Cert.Reference4Ideal.Read.val_main_v20_eq]
      funext j
      have ej : j = ix3 0 (j 1) (j 2) := by funext a; fin_cases a <;> first | exact Subsingleton.elim (α := Fin 1) _ _ | rfl
      rw [ej]
      exact Cert.Reference4Ideal.Proj.q_at _ _ _ (j 1) (j 2)
    · refine Eq.trans ?_ (Cert.Kernel4Ideal.Proj.finalK m c).symm
      rw [Cert.Reference4Ideal.Read.val_main_v16_eq]
      funext j
      have ej : j = ix3 0 (j 1) (j 2) := by funext a; fin_cases a <;> first | exact Subsingleton.elim (α := Fin 1) _ _ | rfl
      rw [ej]
      exact Cert.Reference4Ideal.Proj.k_at _ _ _ (j 1) (j 2)
    · refine Eq.trans ?_ (Cert.Kernel4Ideal.Proj.finalV m c).symm
      rw [Cert.Reference4Ideal.Read.val_main_v17_eq]
      funext j
      have ej : j = ix3 0 (j 1) (j 2) := by funext a; fin_cases a <;> first | exact Subsingleton.elim (α := Fin 1) _ _ | rfl
      rw [ej]
      exact Cert.Reference4Ideal.Proj.v_at _ _ _ (j 1) (j 2)

/-- The fifth reference runs, leaves its arguments as they were, and has no semaphores to leave set. -/
theorem frame_ref5 : Cert.quiescent_Reference5Ideal := by
  intro m g _
  exact (θ_run Cert.Reference5Ideal.defs _ _).mono
    (fun r h => ⟨fun c => (h c).2.2, sem_eq_zero_of_no_sems (by decide) r.2⟩) (Cert.Reference5Ideal.Value.run (F := Ideal) m g)

/-- Kernel and reference of the memory return the same keys and values. -/
theorem algebraic5 : Cert.algebraic_Kernel5Ideal_Reference5Ideal := by
  pair_intro
  · run_from Cert.Kernel5Ideal.Mem.run_blocks m g
  · run_from Cert.Reference5Ideal.Value.run m' g'
    · refine Eq.trans ?_ (Cert.Kernel5Ideal.Mem.finalK m c).symm
      rw [Cert.Reference5Ideal.Read.val_main_v46_eq]
      rw [(hagree c).2.2]
      funext j
      have ej : j = ix3 (j 0) (j 1) (j 2) := by funext a; fin_cases a <;> rfl
      rw [ej]
      exact Cert.Reference5Ideal.Mem.k_at _ _ _ (j 0) (j 1) (j 2)
    · refine Eq.trans ?_ (Cert.Kernel5Ideal.Mem.finalV m c).symm
      rw [Cert.Reference5Ideal.Read.val_main_v47_eq]
      rw [(hagree c).2.2]
      funext j
      have ej : j = ix3 (j 0) (j 1) (j 2) := by funext a; fin_cases a <;> rfl
      rw [ej]
      exact Cert.Reference5Ideal.Mem.v_at _ _ _ (j 0) (j 1) (j 2)

/-- The certificate: every claim of the statement. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Gen.facts, Cert.Pre_finite2.Gen.facts, Cert.Pre_finite3.Gen.facts,
  fun m ρ _ => Cert.Kernel.Gen.frame m ρ, fun m ρ _ => Cert.KernelIdeal.Gen.frame m ρ, fun m ρ _ => Cert.KernelIdeal.Gen.frame m ρ,
  frame_ref, fun m g _ => frame_ref m g trivial,
  fun m ρ _ => Cert.Kernel2.Gen.frame m ρ, fun m ρ _ => Cert.Kernel2Ideal.Gen.frame m ρ, fun m ρ _ => Cert.Kernel2Ideal.Gen.frame m ρ,
  frame_ref2, fun m g _ => frame_ref2 m g trivial,
  fun m ρ _ => Cert.Kernel3.Gen.frame m ρ, fun m ρ _ => Cert.Kernel3Ideal.Gen.frame m ρ, fun m ρ _ => Cert.Kernel3Ideal.Gen.frame m ρ,
  frame_ref3, fun m g _ => frame_ref3 m g trivial,
  fun m ρ _ => Cert.Kernel4.Gen.frame m ρ, fun m ρ _ => Cert.Kernel4Ideal.Gen.frame m ρ, frame_ref4,
  fun m ρ _ => Cert.Kernel5.Mem.frame_mem m ρ, fun m ρ _ => Cert.Kernel5Ideal.Mem.frame_mem m ρ, frame_ref5,
  IdealRules.named_const.statement Cert.KernelIdeal.κ "mask" .f32 0xF149F2CA#32 ⊥ rfl, algebraic, trivial, algebraic2, trivial, algebraic3, trivial, algebraic4, trivial, algebraic5⟩

end Cert.Proof

end
